-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel2.lean ====
abbrev S16384x4096 : Shape := ⟨2, ![16384, 4096]⟩
abbrev S4096 : Shape := ⟨1, ![4096]⟩
abbrev S4x1x4096 : Shape := ⟨3, ![4, 1, 4096]⟩
abbrev S4x4096x11008 : Shape := ⟨3, ![4, 4096, 11008]⟩
abbrev S1x4096 : Shape := ⟨2, ![1, 4096]⟩
abbrev S16384x11008 : Shape := ⟨2, ![16384, 11008]⟩
abbrev S1024x4096 : Shape := ⟨2, ![1024, 4096]⟩
abbrev S1x1x4096 : Shape := ⟨3, ![1, 1, 4096]⟩
abbrev S1x4096x256 : Shape := ⟨3, ![1, 4096, 256]⟩
abbrev S1024x256 : Shape := ⟨2, ![1024, 256]⟩
abbrev S32x4096 : Shape := ⟨2, ![32, 4096]⟩
abbrev S32 : Shape := ⟨1, ![32]⟩
abbrev S32x1 : Shape := ⟨2, ![32, 1]⟩
abbrev S4096x256 : Shape := ⟨2, ![4096, 256]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x11008, .f32⟩
  | .hbm, ⟨5, _⟩ => ⟨S4x4096x11008, .f32⟩
  | .hbm, ⟨6, _⟩ => ⟨S4x4096x11008, .bf16⟩
  | .hbm, ⟨7, _⟩ => ⟨S4x4096x11008, .bf16⟩
  | .hbm, ⟨8, _⟩ => ⟨S1x4096, .f32⟩
  | .hbm, ⟨9, _⟩ => ⟨S16384x11008, .bf16⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1024x256, .bf16⟩
  | .local _ .vmem, ⟨12, _⟩ => ⟨S1024x256, .bf16⟩
  | .local _ .vmem, ⟨13, _⟩ => ⟨S1024x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c32_i32 : BitVec 32 := 32#32
  let v21 : BitVec 32 := Scalar.addi c0_i32_19 c32_i32
  let c1_i32 : BitVec 32 := 1#32
  ⟨c0_i32_19, v21, c1_i32⟩
def k0_mult1 (k0_t1 : Fin k0_t1_loop.trips) : BitVec 32 :=
  let c0_i32_19 : BitVec 32 := 0#32
  let c1_i32 : BitVec 32 := 1#32
  let arg10 : BitVec 32 := Scf.iv c0_i32_19 c1_i32 k0_t1
  let c32_i32_21 : BitVec 32 := 32#32
  let v22 : BitVec 32 := Scalar.muli arg10 c32_i32_21
  v22
def k0_off1 (k0_t1 : Fin k0_t1_loop.trips) : Fin 2 → Nat :=
  let c0_i32_19 : BitVec 32 := 0#32
  let c1_i32 : BitVec 32 := 1#32
  let arg10 : BitVec 32 := Scf.iv c0_i32_19 c1_i32 k0_t1
  let c32_i32_21 : BitVec 32 := 32#32
  let v22 : BitVec 32 := Scalar.muli arg10 c32_i32_21
  let v23 : BitVec 32 := v22
  let v24 : Index := Scalar.indexCast v23
  let c0_22 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16384x4096 : Shape := ⟨2, ![16384, 4096]⟩
abbrev S4096 : Shape := ⟨1, ![4096]⟩
abbrev S4x1x4096 : Shape := ⟨3, ![4, 1, 4096]⟩
abbrev S4x4096x11008 : Shape := ⟨3, ![4, 4096, 11008]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S1x4096x11008 : Shape := ⟨3, ![1, 4096, 11008]⟩
abbrev S4096x11008 : Shape := ⟨2, ![4096, 11008]⟩
abbrev S16384x11008 : Shape := ⟨2, ![16384, 11008]⟩

abbrev nBuf : Space → Nat
  | .hbm => 48
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x11008, .f32⟩
  | .hbm, ⟨5, _⟩ => ⟨S4x4096x11008, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x1x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S1x4096x11008, .f32⟩
  | .hbm, ⟨31, _⟩ => ⟨S4096x11008, .f32⟩
  | .hbm, ⟨32, _⟩ => ⟨S4x4096x11008, .f32⟩
  | .hbm, ⟨33, _⟩ => ⟨S4x4096x11008, .f32⟩
  | .hbm, ⟨34, _⟩ => ⟨S4x4096x11008, .f32⟩
  | .hbm, ⟨35, _⟩ => ⟨S_, .f32⟩
  | .hbm, ⟨36, _⟩ => ⟨S4x4096x11008, .f32⟩
  | .hbm, ⟨37, _⟩ => ⟨S4x4096x11008, .f32⟩
  | .hbm, ⟨38, _⟩ => ⟨S_, .f32⟩
  | .hbm, ⟨39, _⟩ => ⟨S4x4096x11008, .f32⟩
  | .hbm, ⟨40, _⟩ => ⟨S4x4096x11008, .f32⟩
  | .hbm, ⟨41, _⟩ => ⟨S4x4096x11008, .f32⟩
  | .hbm, ⟨42, _⟩ => ⟨S1x4096x11008, .f32⟩
  | .hbm, ⟨43, _⟩ => ⟨S4096x11008, .f32⟩
  | .hbm, ⟨44, _⟩ => ⟨S4x4096x11008, .f32⟩
  | .hbm, ⟨45, _⟩ => ⟨S4x4096x11008, .f32⟩
  | .hbm, ⟨46, _⟩ => ⟨S16384x11008, .f32⟩
  | .hbm, ⟨47, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel3.lean ====
abbrev S16384x11008 : Shape := ⟨2, ![16384, 11008]⟩
abbrev S4x11008x4096 : Shape := ⟨3, ![4, 11008, 4096]⟩
abbrev S16384x4096 : Shape := ⟨2, ![16384, 4096]⟩
abbrev S4x1x4096 : Shape := ⟨3, ![4, 1, 4096]⟩
abbrev S1024x11008 : Shape := ⟨2, ![1024, 11008]⟩
abbrev S1x11008x256 : Shape := ⟨3, ![1, 11008, 256]⟩
abbrev S1024x256 : Shape := ⟨2, ![1024, 256]⟩
abbrev S1x1x256 : Shape := ⟨3, ![1, 1, 256]⟩
abbrev S1x256 : Shape := ⟨2, ![1, 256]⟩
abbrev S11008x256 : Shape := ⟨2, ![11008, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x4096, .f32⟩
  | .hbm, ⟨3, _⟩ => ⟨S4x1x4096, .f32⟩
  | .hbm, ⟨4, _⟩ => ⟨S4x11008x4096, .bf16⟩
  | .hbm, ⟨5, _⟩ => ⟨S16384x4096, .f32⟩
  | .local _ .vmem, ⟨0, _⟩ => ⟨S1024x11008, .bf16⟩
  | .local _ .vmem, ⟨1, _⟩ => ⟨S1x11008x256, .bf16⟩
  | .local _ .vmem, ⟨2, _⟩ => ⟨S1x11008x256, .bf16⟩
  | .local _ .vmem, ⟨3, _⟩ => ⟨S1024x256, .f32⟩
  | .local _ .vmem, ⟨4, _⟩ => ⟨S1024x256, .f32⟩
  | .local _ .vmem, ⟨5, _⟩ => ⟨S1x1x256, .f32⟩
  | .local _ .vmem, ⟨6, _⟩ => ⟨S1x1x256, .f32⟩
  | .local _ .vmem, ⟨7, _⟩ => ⟨S1024x256, .f32⟩
  | .local _ .vmem, ⟨8, _⟩ => ⟨S1024x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x11008 : Shape := ⟨2, ![16384, 11008]⟩
abbrev S4x11008x4096 : Shape := ⟨3, ![4, 11008, 4096]⟩
abbrev S16384x4096 : Shape := ⟨2, ![16384, 4096]⟩
abbrev S4x1x4096 : Shape := ⟨3, ![4, 1, 4096]⟩
abbrev S4x4096x4096 : Shape := ⟨3, ![4, 4096, 4096]⟩
abbrev S4x4096x11008 : Shape := ⟨3, ![4, 4096, 11008]⟩
abbrev S1x11008x4096 : Shape := ⟨3, ![1, 11008, 4096]⟩
abbrev S11008x4096 : Shape := ⟨2, ![11008, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x4096, .f32⟩
  | .hbm, ⟨3, _⟩ => ⟨S4x1x4096, .f32⟩
  | .hbm, ⟨4, _⟩ => ⟨S4x4096x4096, .f32⟩
  | .hbm, ⟨5, _⟩ => ⟨S16384x11008, .f32⟩
  | .hbm, ⟨6, _⟩ => ⟨S4x4096x11008, .f32⟩
  | .hbm, ⟨7, _⟩ => ⟨S1x11008x4096, .f32⟩
  | .hbm, ⟨8, _⟩ => ⟨S11008x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S16384x4096 : Shape := ⟨2, ![16384, 4096]⟩
abbrev S4x4096x4096 : Shape := ⟨3, ![4, 4096, 4096]⟩
abbrev S4x1x4096 : Shape := ⟨3, ![4, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x512 : Shape := ⟨3, ![1, 1, 512]⟩
abbrev S1x512 : Shape := ⟨2, ![1, 512]⟩
abbrev S4096x512 : Shape := ⟨2, ![4096, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S4x1x4096, .f32⟩
  | .hbm, ⟨4, _⟩ => ⟨S4x4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x4096 : Shape := ⟨2, ![16384, 4096]⟩
abbrev S4x4096x4096 : Shape := ⟨3, ![4, 4096, 4096]⟩
abbrev S4x1x4096 : Shape := ⟨3, ![4, 1, 4096]⟩
abbrev S1x4096x4096 : Shape := ⟨3, ![1, 4096, 4096]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S4x1x4096, .f32⟩
  | .hbm, ⟨4, _⟩ => ⟨S4x4096x4096, .f32⟩
  | .hbm, ⟨5, _⟩ => ⟨S16384x4096, .f32⟩
  | .hbm, ⟨6, _⟩ => ⟨S4x4096x4096, .f32⟩
  | .hbm, ⟨7, _⟩ => ⟨S1x4096x4096, .f32⟩
  | .hbm, ⟨8, _⟩ => ⟨S4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S16384x1024 : Shape := ⟨2, ![16384, 1024]⟩
abbrev S16384x384 : Shape := ⟨2, ![16384, 384]⟩
abbrev S4x1024x1024 : Shape := ⟨3, ![4, 1024, 1024]⟩
abbrev S1024 : Shape := ⟨1, ![1024]⟩
abbrev S4x3x256x4096 : Shape := ⟨4, ![4, 3, 256, 4096]⟩
abbrev S3x4096 : Shape := ⟨2, ![3, 4096]⟩
abbrev S4x3x1024x4096 : Shape := ⟨4, ![4, 3, 1024, 4096]⟩
abbrev S1x1024 : Shape := ⟨2, ![1, 1024]⟩
abbrev S3x1x4096 : Shape := ⟨3, ![3, 1, 4096]⟩
abbrev S16384x4096 : Shape := ⟨2, ![16384, 4096]⟩
abbrev S1024x1024 : Shape := ⟨2, ![1024, 1024]⟩
abbrev S1024x256 : Shape := ⟨2, ![1024, 256]⟩
abbrev S1x1024x1024 : Shape := ⟨3, ![1, 1024, 1024]⟩
abbrev S1x3x256x512 : Shape := ⟨4, ![1, 3, 256, 512]⟩
abbrev S3x1x512 : Shape := ⟨3, ![3, 1, 512]⟩
abbrev S1x3x1024x512 : Shape := ⟨4, ![1, 3, 1024, 512]⟩
abbrev S1024x512 : Shape := ⟨2, ![1024, 512]⟩
abbrev S1x1x256x512 : Shape := ⟨4, ![1, 1, 256, 512]⟩
abbrev S256x512 : Shape := ⟨2, ![256, 512]⟩
abbrev S1x1x512 : Shape := ⟨3, ![1, 1, 512]⟩
abbrev S1x512 : Shape := ⟨2, ![1, 512]⟩
abbrev S1x1x1024x512 : Shape := ⟨4, ![1, 1, 1024, 512]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x384, .f32⟩
  | .hbm, ⟨4, _⟩ => ⟨S4x1024x1024, .f32⟩
  | .hbm, ⟨5, _⟩ => ⟨S1024, .f32⟩
  | .hbm, ⟨6, _⟩ => ⟨S4x3x256x4096, .f32⟩
  | .hbm, ⟨7, _⟩ => ⟨S3x4096, .f32⟩
  | .hbm, ⟨8, _⟩ => ⟨S4x3x1024x4096, .f32⟩
  | .hbm, ⟨9, _⟩ => ⟨S4x1024x1024, .bf16⟩
  | .hbm, ⟨10, _⟩ => ⟨S1x1024, .f32⟩
  | .hbm, ⟨11, _⟩ => ⟨S4x3x256x4096, .bf16⟩
  | .hbm, ⟨12, _⟩ => ⟨S3x1x4096, .f32⟩
  | .hbm, ⟨13, _⟩ => ⟨S4x3x1024x4096, .bf16⟩
  | .hbm, ⟨14, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .f32⟩
  | .local _ .vmem, ⟨7, _⟩ => ⟨S1024x256, .f32⟩
  | .local _ .vmem, ⟨8, _⟩ => ⟨S1x1024x1024, .bf16⟩
  | .local _ .vmem, ⟨9, _⟩ => ⟨S1x1024, .f32⟩
  | .local _ .vmem, ⟨10, _⟩ => ⟨S1x3x256x512, .bf16⟩
  | .local _ .vmem, ⟨11, _⟩ => ⟨S1x3x256x512, .bf16⟩
  | .local _ .vmem, ⟨12, _⟩ => ⟨S3x1x512, .f32⟩
  | .local _ .vmem, ⟨13, _⟩ => ⟨S3x1x512, .f32⟩
  | .local _ .vmem, ⟨14, _⟩ => ⟨S1x3x1024x512, .bf16⟩
  | .local _ .vmem, ⟨15, _⟩ => ⟨S1x3x1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x3x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16384x1024 : Shape := ⟨2, ![16384, 1024]⟩
abbrev S16384x384 : Shape := ⟨2, ![16384, 384]⟩
abbrev S4x1024x1024 : Shape := ⟨3, ![4, 1024, 1024]⟩
abbrev S1024 : Shape := ⟨1, ![1024]⟩
abbrev S4x3x256x4096 : Shape := ⟨4, ![4, 3, 256, 4096]⟩
abbrev S3x4096 : Shape := ⟨2, ![3, 4096]⟩
abbrev S4x3x1024x4096 : Shape := ⟨4, ![4, 3, 1024, 4096]⟩
abbrev S16384x256 : Shape := ⟨2, ![16384, 256]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S1x1x256x4096 : Shape := ⟨4, ![1, 1, 256, 4096]⟩
abbrev S256x4096 : Shape := ⟨2, ![256, 4096]⟩
abbrev S16384x4096 : Shape := ⟨2, ![16384, 4096]⟩
abbrev S1x4096 : Shape := ⟨2, ![1, 4096]⟩
abbrev S4096 : Shape := ⟨1, ![4096]⟩
abbrev S1x1x1024x4096 : Shape := ⟨4, ![1, 1, 1024, 4096]⟩
abbrev S1024x4096 : Shape := ⟨2, ![1024, 4096]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x384, .f32⟩
  | .hbm, ⟨4, _⟩ => ⟨S4x1024x1024, .f32⟩
  | .hbm, ⟨5, _⟩ => ⟨S1024, .f32⟩
  | .hbm, ⟨6, _⟩ => ⟨S4x3x256x4096, .f32⟩
  | .hbm, ⟨7, _⟩ => ⟨S3x4096, .f32⟩
  | .hbm, ⟨8, _⟩ => ⟨S4x3x1024x4096, .f32⟩
  | .hbm, ⟨9, _⟩ => ⟨S16384x256, .f32⟩
  | .hbm, ⟨10, _⟩ => ⟨S16384x1024, .f32⟩
  | .hbm, ⟨11, _⟩ => ⟨S1x1024x1024, .f32⟩
  | .hbm, ⟨12, _⟩ => ⟨S1024x1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1x256x4096, .f32⟩
  | .hbm, ⟨29, _⟩ => ⟨S256x4096, .f32⟩
  | .hbm, ⟨30, _⟩ => ⟨S16384x4096, .f32⟩
  | .hbm, ⟨31, _⟩ => ⟨S1x4096, .f32⟩
  | .hbm, ⟨32, _⟩ => ⟨S4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S1x1x1024x4096, .f32⟩
  | .hbm, ⟨45, _⟩ => ⟨S1024x4096, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S1x1x256x4096, .f32⟩
  | .hbm, ⟨52, _⟩ => ⟨S256x4096, .f32⟩
  | .hbm, ⟨53, _⟩ => ⟨S16384x4096, .f32⟩
  | .hbm, ⟨54, _⟩ => ⟨S1x4096, .f32⟩
  | .hbm, ⟨55, _⟩ => ⟨S4096, .f32⟩
  | .hbm, ⟨56, _⟩ => ⟨S1x4096, .f32⟩
  | .hbm, ⟨57, _⟩ => ⟨S16384x4096, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S_, .f32⟩
  | .hbm, ⟨62, _⟩ => ⟨S16384x4096, .f32⟩
  | .hbm, ⟨63, _⟩ => ⟨S16384x4096, .f32⟩
  | .hbm, ⟨64, _⟩ => ⟨S_, .f32⟩
  | .hbm, ⟨65, _⟩ => ⟨S16384x4096, .f32⟩
  | .hbm, ⟨66, _⟩ => ⟨S16384x4096, .f32⟩
  | .hbm, ⟨67, _⟩ => ⟨S1x1x1024x4096, .f32⟩
  | .hbm, ⟨68, _⟩ => ⟨S1024x4096, .f32⟩
  | .hbm, ⟨69, _⟩ => ⟨S16384x4096, .f32⟩
  | .hbm, ⟨70, _⟩ => ⟨S16384x4096, .f32⟩
  | .hbm, ⟨71, _⟩ => ⟨S16384x4096, .f32⟩
  | .hbm, ⟨72, _⟩ => ⟨S1x1x256x4096, .f32⟩
  | .hbm, ⟨73, _⟩ => ⟨S256x4096, .f32⟩
  | .hbm, ⟨74, _⟩ => ⟨S16384x4096, .f32⟩
  | .hbm, ⟨75, _⟩ => ⟨S1x4096, .f32⟩
  | .hbm, ⟨76, _⟩ => ⟨S4096, .f32⟩
  | .hbm, ⟨77, _⟩ => ⟨S1x4096, .f32⟩
  | .hbm, ⟨78, _⟩ => ⟨S16384x4096, .f32⟩
  | .hbm, ⟨79, _⟩ => ⟨S16384x4096, .f32⟩
  | .hbm, ⟨80, _⟩ => ⟨S16384x4096, .f32⟩
  | .hbm, ⟨81, _⟩ => ⟨S16384x4096, .f32⟩
  | .hbm, ⟨82, _⟩ => ⟨S_, .f32⟩
  | .hbm, ⟨83, _⟩ => ⟨S16384x4096, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S1x1x1024x4096, .f32⟩
  | .hbm, ⟨89, _⟩ => ⟨S1024x4096, .f32⟩
  | .hbm, ⟨90, _⟩ => ⟨S16384x4096, .f32⟩
  | .hbm, ⟨91, _⟩ => ⟨S16384x4096, .f32⟩
  | .hbm, ⟨92, _⟩ => ⟨S16384x4096, .f32⟩
  | .hbm, ⟨93, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S4x1x4096 : Shape := ⟨3, ![4, 1, 4096]⟩
abbrev S4096x8480 : Shape := ⟨2, ![4096, 8480]⟩
abbrev S32 : Shape := ⟨1, ![32]⟩
abbrev S4096x7168 : Shape := ⟨2, ![4096, 7168]⟩
abbrev S4096x1024 : Shape := ⟨2, ![4096, 1024]⟩
abbrev S4096x8192 : Shape := ⟨2, ![4096, 8192]⟩
abbrev S4096x256 : Shape := ⟨2, ![4096, 256]⟩
abbrev S4096x32 : Shape := ⟨2, ![4096, 32]⟩
abbrev S4096x288 : Shape := ⟨2, ![4096, 288]⟩
abbrev S_ : Shape := ⟨0, ![]⟩
abbrev S4096x384 : Shape := ⟨2, ![4096, 384]⟩
abbrev S256 : Shape := ⟨1, ![256]⟩
abbrev S288 : Shape := ⟨1, ![288]⟩
abbrev S384 : Shape := ⟨1, ![384]⟩
abbrev S1x384 : Shape := ⟨2, ![1, 384]⟩
abbrev S1x4096 : Shape := ⟨2, ![1, 4096]⟩
abbrev S16384x8192 : Shape := ⟨2, ![16384, 8192]⟩
abbrev S16384x384 : Shape := ⟨2, ![16384, 384]⟩
abbrev S1024x4096 : Shape := ⟨2, ![1024, 4096]⟩
abbrev S1x1x4096 : Shape := ⟨3, ![1, 1, 4096]⟩
abbrev S4096x512 : Shape := ⟨2, ![4096, 512]⟩
abbrev S1024x512 : Shape := ⟨2, ![1024, 512]⟩
abbrev S1024x384 : Shape := ⟨2, ![1024, 384]⟩
abbrev S32x4096 : Shape := ⟨2, ![32, 4096]⟩
abbrev S32x1 : Shape := ⟨2, ![32, 1]⟩

abbrev nBuf : Space → Nat
  | .hbm => 27
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4096x8480, .f32⟩
  | .hbm, ⟨5, _⟩ => ⟨S32, .f32⟩
  | .hbm, ⟨6, _⟩ => ⟨S4096x7168, .f32⟩
  | .hbm, ⟨7, _⟩ => ⟨S4096x1024, .f32⟩
  | .hbm, ⟨8, _⟩ => ⟨S4096x8192, .f32⟩
  | .hbm, ⟨9, _⟩ => ⟨S4096x256, .f32⟩
  | .hbm, ⟨10, _⟩ => ⟨S4096x32, .f32⟩
  | .hbm, ⟨11, _⟩ => ⟨S4096x288, .f32⟩
  | .hbm, ⟨12, _⟩ => ⟨S_, .i32⟩
  | .hbm, ⟨13, _⟩ => ⟨S_, .f32⟩
  | .hbm, ⟨14, _⟩ => ⟨S4096x384, .f32⟩
  | .hbm, ⟨15, _⟩ => ⟨S_, .f32⟩
  | .hbm, ⟨16, _⟩ => ⟨S256, .f32⟩
  | .hbm, ⟨17, _⟩ => ⟨S288, .f32⟩
  | .hbm, ⟨18, _⟩ => ⟨S_, .i32⟩
  | .hbm, ⟨19, _⟩ => ⟨S_, .f32⟩
  | .hbm, ⟨20, _⟩ => ⟨S384, .f32⟩
  | .hbm, ⟨21, _⟩ => ⟨S1x384, .f32⟩
  | .hbm, ⟨22, _⟩ => ⟨S1x4096, .f32⟩
  | .hbm, ⟨23, _⟩ => ⟨S4096x8192, .bf16⟩
  | .hbm, ⟨24, _⟩ => ⟨S4096x384, .bf16⟩
  | .hbm, ⟨25, _⟩ => ⟨S16384x8192, .bf16⟩
  | .hbm, ⟨26, _⟩ => ⟨S16384x384, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x512, .bf16⟩
  | .local _ .vmem, ⟨8, _⟩ => ⟨S4096x512, .bf16⟩
  | .local _ .vmem, ⟨9, _⟩ => ⟨S4096x384, .bf16⟩
  | .local _ .vmem, ⟨10, _⟩ => ⟨S1x384, .f32⟩
  | .local _ .vmem, ⟨11, _⟩ => ⟨S1024x512, .bf16⟩
  | .local _ .vmem, ⟨12, _⟩ => ⟨S1024x512, .bf16⟩
  | .local _ .vmem, ⟨13, _⟩ => ⟨S1024x384, .f32⟩
  | .local _ .vmem, ⟨14, _⟩ => ⟨S1024x384, .f32⟩
  | .local _ .vmem, ⟨15, _⟩ => ⟨S1024x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c32_i32 : BitVec 32 := 32#32
  let v15 : BitVec 32 := Scalar.addi c0_i32_14 c32_i32
  let c1_i32 : BitVec 32 := 1#32
  ⟨c0_i32_14, v15, c1_i32⟩
def k0_mult1 (k0_t1 : Fin k0_t1_loop.trips) : BitVec 32 :=
  let c0_i32_14 : BitVec 32 := 0#32
  let c1_i32 : BitVec 32 := 1#32
  let arg12 : BitVec 32 := Scf.iv c0_i32_14 c1_i32 k0_t1
  let c32_i32_25 : BitVec 32 := 32#32
  let v25 : BitVec 32 := Scalar.muli arg12 c32_i32_25
  v25
def k0_off1 (k0_t1 : Fin k0_t1_loop.trips) : Fin 2 → Nat :=
  let c0_i32_14 : BitVec 32 := 0#32
  let c1_i32 : BitVec 32 := 1#32
  let arg12 : BitVec 32 := Scf.iv c0_i32_14 c1_i32 k0_t1
  let c32_i32_25 : BitVec 32 := 32#32
  let v25 : BitVec 32 := Scalar.muli arg12 c32_i32_25
  let v26 : BitVec 32 := v25
  let v27 : Index := Scalar.indexCast v26
  let c0_26 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4096x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S16384x4096 : Shape := ⟨2, ![16384, 4096]⟩
abbrev S4096 : Shape := ⟨1, ![4096]⟩
abbrev S4x1x4096 : Shape := ⟨3, ![4, 1, 4096]⟩
abbrev S4096x8480 : Shape := ⟨2, ![4096, 8480]⟩
abbrev S32 : Shape := ⟨1, ![32]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x4096x8480 : Shape := ⟨3, ![4, 4096, 8480]⟩
abbrev S4x4096x7168 : Shape := ⟨3, ![4, 4096, 7168]⟩
abbrev S4x4096x1024 : Shape := ⟨3, ![4, 4096, 1024]⟩
abbrev S4x4096x8192 : Shape := ⟨3, ![4, 4096, 8192]⟩
abbrev S4x4096x256 : Shape := ⟨3, ![4, 4096, 256]⟩
abbrev S4x4096x32 : Shape := ⟨3, ![4, 4096, 32]⟩
abbrev S1x1x32 : Shape := ⟨3, ![1, 1, 32]⟩
abbrev S4x4096x288 : Shape := ⟨3, ![4, 4096, 288]⟩
abbrev S16384x8192 : Shape := ⟨2, ![16384, 8192]⟩
abbrev S4x4096x384 : Shape := ⟨3, ![4, 4096, 384]⟩
abbrev S16384x384 : Shape := ⟨2, ![16384, 384]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4096x8480, .f32⟩
  | .hbm, ⟨5, _⟩ => ⟨S32, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x1x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x8480, .f32⟩
  | .hbm, ⟨31, _⟩ => ⟨S4x4096x7168, .f32⟩
  | .hbm, ⟨32, _⟩ => ⟨S4x4096x1024, .f32⟩
  | .hbm, ⟨33, _⟩ => ⟨S4x4096x8192, .f32⟩
  | .hbm, ⟨34, _⟩ => ⟨S4x4096x256, .f32⟩
  | .hbm, ⟨35, _⟩ => ⟨S4x4096x32, .f32⟩
  | .hbm, ⟨36, _⟩ => ⟨S1x1x32, .f32⟩
  | .hbm, ⟨37, _⟩ => ⟨S4x4096x32, .f32⟩
  | .hbm, ⟨38, _⟩ => ⟨S4x4096x32, .f32⟩
  | .hbm, ⟨39, _⟩ => ⟨S4x4096x288, .f32⟩
  | .hbm, ⟨40, _⟩ => ⟨S16384x8192, .f32⟩
  | .hbm, ⟨41, _⟩ => ⟨S16384x8192, .bf16⟩
  | .hbm, ⟨42, _⟩ => ⟨S_, .i32⟩
  | .hbm, ⟨43, _⟩ => ⟨S_, .f32⟩
  | .hbm, ⟨44, _⟩ => ⟨S4x4096x384, .f32⟩
  | .hbm, ⟨45, _⟩ => ⟨S16384x384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S32x4096 : Shape := ⟨2, ![32, 4096]⟩
abbrev S32 : Shape := ⟨1, ![32]⟩
abbrev S32x1 : Shape := ⟨2, ![32, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32 : BitVec 32 := 32#32
  let v3 : BitVec 32 := Scalar.muli arg4 c32_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32 : BitVec 32 := 32#32
  let v3 : BitVec 32 := Scalar.muli arg4 c32_i32
  let v4 : BitVec 32 := v3
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x4096x4096, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S1x1x4096, .f32⟩
  | .hbm, ⟨17, _⟩ => ⟨S4x4096x4096, .f32⟩
  | .hbm, ⟨18, _⟩ => ⟨S4x4096x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S4x4096 : Shape := ⟨2, ![4, 4096]⟩
abbrev S4096x256 : Shape := ⟨2, ![4096, 256]⟩
abbrev S4x256x24576 : Shape := ⟨3, ![4, 256, 24576]⟩
abbrev S4x24576 : Shape := ⟨2, ![4, 24576]⟩
abbrev S_ : Shape := ⟨0, ![]⟩
abbrev S8x4096 : Shape := ⟨2, ![8, 4096]⟩
abbrev S1 : Shape := ⟨1, ![1]⟩
abbrev S4x1x24576 : Shape := ⟨3, ![4, 1, 24576]⟩
abbrev S4x8x24576 : Shape := ⟨3, ![4, 8, 24576]⟩
abbrev S1x256x4096 : Shape := ⟨3, ![1, 256, 4096]⟩
abbrev S1x1x4096 : Shape := ⟨3, ![1, 1, 4096]⟩
abbrev S1x8x4096 : Shape := ⟨3, ![1, 8, 4096]⟩
abbrev S8x256 : Shape := ⟨2, ![8, 256]⟩
abbrev S256x4096 : Shape := ⟨2, ![256, 4096]⟩
abbrev S1x4096 : Shape := ⟨2, ![1, 4096]⟩
abbrev S4x4x24576 : Shape := ⟨3, ![4, 4, 24576]⟩

abbrev nBuf : Space → Nat
  | .hbm => 12
  | .vmem => 8
  | .smem => 0
  | _ => 0

abbrev bufTy : (tb : Table) → Fin (tcTables nBuf tb) → BufTy
  | .hbm, ⟨0, _⟩ => ⟨S4x4096, .f32⟩
  | .hbm, ⟨1, _⟩ => ⟨S4096x256, .f32⟩
  | .hbm, ⟨2, _⟩ => ⟨S4x256x24576, .f32⟩
  | .hbm, ⟨3, _⟩ => ⟨S4x24576, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S4x1x24576, .f32⟩
  | .hbm, ⟨10, _⟩ => ⟨S4x8x24576, .f32⟩
  | .hbm, ⟨11, _⟩ => ⟨S4x4x24576, .f32⟩
  | .local _ .vmem, ⟨0, _⟩ => ⟨S8x4096, .f32⟩
  | .local _ .vmem, ⟨1, _⟩ => ⟨S4096x256, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x8x4096, .f32⟩
  | .local _ .vmem, ⟨7, _⟩ => ⟨S1x8x4096, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x4096 : Shape := ⟨2, ![4, 4096]⟩
abbrev S4096x256 : Shape := ⟨2, ![4096, 256]⟩
abbrev S4x256x24576 : Shape := ⟨3, ![4, 256, 24576]⟩
abbrev S4x24576 : Shape := ⟨2, ![4, 24576]⟩
abbrev S_ : Shape := ⟨0, ![]⟩
abbrev S4x256 : Shape := ⟨2, ![4, 256]⟩
abbrev S4x24576x4 : Shape := ⟨3, ![4, 24576, 4]⟩
abbrev S4x4x24576 : Shape := ⟨3, ![4, 4, 24576]⟩
abbrev S4x1x24576 : Shape := ⟨3, ![4, 1, 24576]⟩

abbrev nBuf : Space → Nat
  | .hbm => 19
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096x256, .f32⟩
  | .hbm, ⟨2, _⟩ => ⟨S4x256x24576, .f32⟩
  | .hbm, ⟨3, _⟩ => ⟨S4x24576, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x256, .f32⟩
  | .hbm, ⟨14, _⟩ => ⟨S4x24576x4, .f32⟩
  | .hbm, ⟨15, _⟩ => ⟨S4x4x24576, .f32⟩
  | .hbm, ⟨16, _⟩ => ⟨S4x1x24576, .f32⟩
  | .hbm, ⟨17, _⟩ => ⟨S4x4x24576, .f32⟩
  | .hbm, ⟨18, _⟩ => ⟨S4x4x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel9.lean ====
abbrev S4x4096x8192 : Shape := ⟨3, ![4, 4096, 8192]⟩
abbrev S3x3072 : Shape := ⟨2, ![3, 3072]⟩
abbrev S3072 : Shape := ⟨1, ![3072]⟩
abbrev S1x3072 : Shape := ⟨2, ![1, 3072]⟩
abbrev S4x4096x3072 : Shape := ⟨3, ![4, 4096, 3072]⟩
abbrev S1x4096x512 : Shape := ⟨3, ![1, 4096, 512]⟩
abbrev S3x512 : Shape := ⟨2, ![3, 512]⟩
abbrev S1x512 : Shape := ⟨2, ![1, 512]⟩
abbrev S256x512 : Shape := ⟨2, ![256, 512]⟩
abbrev S1x256x512 : Shape := ⟨3, ![1, 256, 512]⟩
abbrev S1x16x512 : Shape := ⟨3, ![1, 16, 512]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x8192, .bf16⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S4x4096x3072, .bf16⟩
  | .local _ .vmem, ⟨0, _⟩ => ⟨S1x4096x512, .bf16⟩
  | .local _ .vmem, ⟨1, _⟩ => ⟨S1x4096x512, .bf16⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S1x4096x512, .bf16⟩
  | .local _ .vmem, ⟨7, _⟩ => ⟨S1x4096x512, .bf16⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  v5
def k0_off1 (k0_t1 : Fin k0_t1_loop.trips) : Fin 3 → Nat :=
  let c0_4 : Index := 0#32
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  let v6 : BitVec 32 := v5
  let v7 : Index := Scalar.indexCast v6
  let c0_5 : Index := 0#32
  ![0, v7.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  let v6 : BitVec 32 := v5
  let c16_i32_6 : BitVec 32 := 16#32
  let v11 : BitVec 32 := Scalar.subi v6 c16_i32_6
  let c0_i32_7 : BitVec 32 := 0#32
  let v12 : BitVec 32 := Scalar.maxsi v11 c0_i32_7
  v12
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  let v6 : BitVec 32 := v5
  let c256_i32_8 : BitVec 32 := 256#32
  let v14 : BitVec 32 := Scalar.addi v6 c256_i32_8
  let c4080_i32 : BitVec 32 := 4080#32
  let v15 : BitVec 32 := Scalar.minsi v14 c4080_i32
  v15
def k0_off2 (k0_t1 : Fin k0_t1_loop.trips) : Fin 3 → Nat :=
  let c0_9 : Index := 0#32
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  let v6 : BitVec 32 := v5
  let c16_i32_6 : BitVec 32 := 16#32
  let v11 : BitVec 32 := Scalar.subi v6 c16_i32_6
  let c0_i32_7 : BitVec 32 := 0#32
  let v12 : BitVec 32 := Scalar.maxsi v11 c0_i32_7
  let v13 : BitVec 32 := v12
  let v17 : Index := Scalar.indexCast v13
  let c0_10 : Index := 0#32
  ![0, v17.toNat, 0]
def k0_off3 (k0_t1 : Fin k0_t1_loop.trips) : Fin 3 → Nat :=
  let c0_11 : Index := 0#32
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  let v6 : BitVec 32 := v5
  let c256_i32_8 : BitVec 32 := 256#32
  let v14 : BitVec 32 := Scalar.addi v6 c256_i32_8
  let c4080_i32 : BitVec 32 := 4080#32
  let v15 : BitVec 32 := Scalar.minsi v14 c4080_i32
  let v16 : BitVec 32 := v15
  let v22 : Index := Scalar.indexCast v16
  let c0_12 : Index := 0#32
  ![0, v22.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x4096x8192 : Shape := ⟨3, ![4, 4096, 8192]⟩
abbrev S3x3072 : Shape := ⟨2, ![3, 3072]⟩
abbrev S3072 : Shape := ⟨1, ![3072]⟩
abbrev S4x4096x3072 : Shape := ⟨3, ![4, 4096, 3072]⟩
abbrev S_ : Shape := ⟨0, ![]⟩
abbrev S4x4098x3072 : Shape := ⟨3, ![4, 4098, 3072]⟩
abbrev S1x3072 : Shape := ⟨2, ![1, 3072]⟩
abbrev S1x1x3072 : Shape := ⟨3, ![1, 1, 3072]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x8192, .bf16⟩
  | .hbm, ⟨1, _⟩ => ⟨S3x3072, .f32⟩
  | .hbm, ⟨2, _⟩ => ⟨S3072, .f32⟩
  | .hbm, ⟨3, _⟩ => ⟨S4x4096x3072, .bf16⟩
  | .hbm, ⟨4, _⟩ => ⟨S4x4096x3072, .f32⟩
  | .hbm, ⟨5, _⟩ => ⟨S_, .i32⟩
  | .hbm, ⟨6, _⟩ => ⟨S_, .f32⟩
  | .hbm, ⟨7, _⟩ => ⟨S4x4098x3072, .f32⟩
  | .hbm, ⟨8, _⟩ => ⟨S4x4096x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x4096x3072, .f32⟩
  | .hbm, ⟨13, _⟩ => ⟨S4x4096x3072, .f32⟩
  | .hbm, ⟨14, _⟩ => ⟨S4x4096x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x4096x3072, .f32⟩
  | .hbm, ⟨19, _⟩ => ⟨S4x4096x3072, .f32⟩
  | .hbm, ⟨20, _⟩ => ⟨S4x4096x3072, .f32⟩
  | .hbm, ⟨21, _⟩ => ⟨S4x4096x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x4096x3072, .f32⟩
  | .hbm, ⟨26, _⟩ => ⟨S4x4096x3072, .f32⟩
  | .hbm, ⟨27, _⟩ => ⟨S4x4096x3072, .f32⟩
  | .hbm, ⟨28, _⟩ => ⟨S1x1x3072, .f32⟩
  | .hbm, ⟨29, _⟩ => ⟨S4x4096x3072, .f32⟩
  | .hbm, ⟨30, _⟩ => ⟨S4x4096x3072, .f32⟩
  | .hbm, ⟨31, _⟩ => ⟨S4x4096x3072, .bf16⟩
  | _, _ => ⟨S4x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Proof.FfnUp.lean ====
/- Hand-written: the value of the first feed-forward product, from the layer's norm to the gated hidden rows. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUp

section
open Cert.Reference2Ideal Cert.Reference2Ideal.Gen

/-- The normed, scaled and shifted rows as the reference computes them. -/
def HN (x : FVec Ideal S16384x4096 .f32) (w : FVec Ideal S4096 .f32) (sc sh : FVec Ideal S4x1x4096 .f32) : FVec Ideal S4x4096x4096 .f32 :=
  (addf (mulf (mulf (mulf (shapeCast _ x shapeCasts_S16384x4096_S4x4096x4096) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (shapeCast _ x shapeCasts_S16384x4096_S4x4096x4096) (shapeCast _ x shapeCasts_S16384x4096_S4x4096x4096)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 w))) (broadcastInDim S4x4096x4096 ![0, 1, 2] bcast_S4x1x4096_S4x4096x4096_0_1_2 (addf (broadcastInDim S4x1x4096 ![] bcast_S_S4x1x4096 (constant S_ .f32 0x3F800000#32)) sc))) (broadcastInDim S4x4096x4096 ![0, 1, 2] bcast_S4x1x4096_S4x4096x4096_0_1_2 sh))

/-- A product of such rows with one layer's weights. -/
def DOT (h : FVec Ideal S4x4096x4096 .f32) (w : FVec Ideal S4x4096x11008 .f32) : FVec Ideal S4x4096x11008 .f32 :=
  Host.dotGeneral dot_S4x4096x4096_S4096x11008_S4x4096x11008_2_0_01_1_n_n none h (shapeCast _ (extractStridedSlice S1x4096x11008 ![0, 0, 0] w slices_S4x4096x11008_S1x4096x11008_0_0_0) shapeCasts_S1x4096x11008_S4096x11008)

/-- What the reference computes from those rows: the gated product. -/
def GLU (h : FVec Ideal S4x4096x4096 .f32) (wg wu : FVec Ideal S4x4096x11008 .f32) : FVec Ideal S16384x11008 .bf16 :=
  truncf .bf16 (shapeCast _ (mulf (mulf (DOT h wg) (Host.divf (broadcastInDim S4x4096x11008 ![] bcast_S_S4x4096x11008 (constant S_ .f32 0x3F800000#32)) (addf (broadcastInDim S4x4096x11008 ![] bcast_S_S4x4096x11008 (constant S_ .f32 0x3F800000#32)) (Host.exp (Host.negf (DOT h wg)))))) (DOT h wu)) shapeCasts_S4x4096x11008_S16384x11008) bitsLt_bf16_f32

/-- The reference's result is that product of those rows. -/
theorem res_eq (m : (ℓ : Loc nD τ sig) → Buf (Elt Ideal) ℓ) (c : Dev nD) :
    Cert.Reference2Ideal.Value.res_main_v29 m c
      = GLU (HN (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)) (m ((c.tc : Thread nD τ).loc main_arg5)) := rfl
end

open Cert.Kernel2Ideal Cert.Kernel2Ideal.Gen

/-- The normed, scaled and shifted rows of one block of rows. -/
def NORM (X : FVec Ideal S1024x4096 .f32) (w : FVec Ideal S1x4096 .f32) (sc sh : FVec Ideal S1x1x4096 .f32) : FVec Ideal S1024x4096 .bf16 :=
  fun y => (show EReal from X y) * Ideal.rsqrt (Ideal.div (∑ d : Fin 4096, (show EReal from X (ix2 (y 0) d)) * (show EReal from X (ix2 (y 0) d))) (Ideal.ofBits .f32 0x45800000#32) + Ideal.ofBits .f32 0x358637BD#32)
    * (show EReal from w (ix2 0 (y 1))) * (1 + (show EReal from sc (ix3 0 0 (y 1)))) + (show EReal from sh (ix3 0 0 (y 1)))

section
variable {𝒱 : Variants} {c : Dev nD} {bd : Option 𝒱.V} {i : grid0.Coords} {arg2 : Memref sig .tc .vmem S1024x4096 .f32} {harg2 : arg2.IsWhole} {arg3 : Memref sig .tc .vmem S1x4096 .f32} {harg3 : arg3.IsWhole} {arg4 : Memref sig .tc .vmem S1x1x4096 .f32} {harg4 : arg4.IsWhole} {arg5 : Memref sig .tc .vmem S1x1x4096 .f32} {harg5 : arg5.IsWhole} {arg6 : Memref sig .tc .vmem S1x4096x256 .bf16} {harg6 : arg6.IsWhole} {arg7 : Memref sig .tc .vmem S1x4096x256 .bf16} {harg7 : arg7.IsWhole} {arg8 : Memref sig .tc .vmem S1024x256 .bf16} {harg8 : arg8.IsWhole} {arg9 : Memref sig .tc .vmem S1024x4096 .bf16} {harg9 : arg9.IsWhole} {h1 : k0_cond1 i = 1#1}
  {v15 : Vec Ideal S1x4096 .f32} {v17 : Vec Ideal S1x1x4096 .f32} {v19 : Vec Ideal S1x1x4096 .f32}
  {X : Vec Ideal S1024x4096 .f32}

/-- What one trip of the norm's loop stores is the normed rows it stores them over. -/
theorem trip_piece (k : Fin k0_t1_loop.trips) :
   ∀ p ∈ tripL_k0_t1 (F := Ideal) 𝒱 c bd i arg2 harg2 arg3 harg3 arg4 harg4 arg5 harg5 arg6 harg6 arg7 harg7 arg8 harg8 arg9 harg9 h1 v15 v17 v19 (harg2.unread X) k,
     ∀ x, p.2 x = NORM X v15 v17 v19 (p.1.emb x) := by
  unfold tripL_k0_t1 trip_k0_t1
  intro p hp x
  obtain rfl := List.mem_singleton.mp hp
  show k0_pay1 v15 v17 v19 _ x = _
  simp only [View.readAt_eq_ld, harg2.read_unread]
  have hx : ∀ inb, (Rect.unit (s := S1024x4096) (k0_off1 k) S32x4096.size inb).emb x = ix2 ⟨32 * k.val + (show Fin 32 from x 0).val, by have := k.isLt; have h : k0_t1_loop.trips = 32 := rfl; have := (show Fin 32 from x 0).isLt; omega⟩ (show Fin 4096 from x 1) := by
    intro inb
    funext d
    apply Fin.ext
    rw [Rect.emb_apply]
    simp only [k0_off1_eq]
    fin_cases d
    · show 32 * k.val + 1 * (x 0).val = 32 * k.val + (x 0).val
      omega
    · show 0 + 1 * (x 1).val = (x 1).val
      omega
  pointwise [k0_pay1, NORM]
  simp only [View.ld_apply, hx]
  simp only [k0_off1_eq]
  have h0 : ∀ (a : Fin 4096) (p1 : _) (p2 : _), (ix2 ⟨(![32 * k.val, 0] : Fin 2 → ℕ) 0 + (x 0).val, p1⟩ ⟨(![32 * k.val, 0] : Fin 2 → ℕ) 1 + a.val, p2⟩ : S1024x4096.Idx)
      = ix2 ⟨32 * k.val + (show Fin 32 from x 0).val, p1⟩ a := fun a p1 p2 => congrArg (ix2 _) (Fin.ext (Nat.zero_add _))
  have h1 := h0 (show Fin 4096 from x 1)
  simp only [h0]
  erw [h1]
  rfl

/-- Every piece the loop's trips store is such rows. -/
theorem trips_piece : ∀ n, n ≤ k0_t1_loop.trips →
   ∀ p ∈ pb_k0_t1 (F := Ideal) 𝒱 c bd i arg2 harg2 arg3 harg3 arg4 harg4 arg5 harg5 arg6 harg6 arg7 harg7 arg8 harg8 arg9 harg9 h1 v15 v17 v19 (harg2.unread X) n,
     ∀ x, p.2 x = NORM X v15 v17 v19 (p.1.emb x)
  | 0, _ => fun p hp => absurd hp (List.not_mem_nil)
  | n + 1, hn => fun p hp => by
    rw [pb_k0_t1_succ (k := ⟨n, hn⟩)] at hp
    rcases List.mem_append.mp hp with h | h
    · exact trip_piece _ p h
    · exact trips_piece n (by omega) p h
end

variable (m : (ℓ : Loc nD τ sig) → Buf (Elt Ideal) ℓ)

/-- Which block of its array each window holds at each grid point. -/
theorem idx_val : ∀ t : Fin cfg0.N, win0_0.index t = ![t.val / 43, 0]
    ∧ win0_1.index t = ![0, 0]
    ∧ win0_2.index t = ![t.val / 172, 0, 0]
    ∧ win0_3.index t = ![t.val / 172, 0, 0]
    ∧ win0_4.index t = ![0, 0, t.val % 43]
    ∧ win0_5.index t = ![0, 0, t.val % 43]
    ∧ win0_6.index t = ![t.val / 43, t.val % 43] :=
  (by decide +kernel : ∀ t : Fin grid0.N, _)

/-- The reference's normed rows, of its arguments in memory. -/
abbrev HNm (c : Dev nD) := HN (m ((c : Thread nD τ).loc main_arg0)) (m ((c : Thread nD τ).loc main_arg1)) (m ((c : Thread nD τ).loc main_arg2)) (m ((c : Thread nD τ).loc main_arg3))

/-- One block of 1024 of them. -/
def HNB (c : Dev nD) (b : Fin 16) : FVec Ideal S1024x4096 .bf16 :=
  fun y => HNm m c (ix3 ⟨b.val / 4, by omega⟩ ⟨1024 * (b.val % 4) + (show Fin 1024 from y 0).val, by omega⟩ (y 1))

/-- The block of grid point `t`. -/
abbrev bOf (t : Fin cfg0.N) : Fin 16 := ⟨t.val / 43, by have := t.isLt; have h : cfg0.N = 688 := rfl; omega⟩

/-- The normed rows of the blocks at a grid point are the reference's. -/
theorem norm_point (c : Dev nD) (t : Fin cfg0.N) :
    NORM (iblk m c 0 t) (iblk m c 1 t) (iblk m c 2 t) (iblk m c 3 t) = HNB m c (bOf t) := by
  funext y
  idx_vars y
  pointwise [NORM, HNB, HN]
  blk_point [iblk, V, idx_val t]

/-- The gated product of a block of the reference's normed rows is the reference's. -/
theorem point (c : Dev nD) (t : Fin cfg0.N) (y) :
    k0_pay2 (HNB m c (bOf t)) (iblk m c 4 t) (iblk m c 5 t) y
      = GLU (HNm m c) (m ((c : Thread nD τ).loc main_arg4)) (m ((c : Thread nD τ).loc main_arg5)) (((cfg0.win 6).blk t).view.emb y) := by
  pointwise [k0_pay2, GLU, DOT, HNB]
  generalize HNm m c = H
  simp only [Ideal.logistic]
  blk_point [iblk, V, idx_val t]

/-- What the scratch holds after a point that runs the norm. -/
theorem scr_A (c : Dev nD) (t : Fin cfg0.N) (h0 : t.val % 43 = 0) :
    (outsAt0 m c t.val t.isLt).2 = NORM (iblk m c 0 t) (iblk m c 1 t) (iblk m c 2 t) (iblk m c 3 t) := by
  rw [outsAt0_A m c t h0]
  funext y
  frame_out
  refine View.canon_apply_of_pieces (NORM (iblk m c 0 t) (iblk m c 1 t) (iblk m c 2 t) (iblk m c 3 t)) _ (fun p hp => trips_piece k0_t1_loop.trips le_rfl p hp) y ?_
  exact View.cover_of_tiledL _ ![32, 4096] (by sl_kernel_rfl) y

/-- After any point the scratch holds the reference's normed rows of the point's block. -/
theorem scr (c : Dev nD) (t : Fin cfg0.N) : (outsAt0 m c t.val t.isLt).2 = HNB m c (bOf t) := by
  obtain ⟨n, hn⟩ := t
  induction n with
  | zero => exact (scr_A m c ⟨0, hn⟩ rfl).trans (norm_point m c _)
  | succ n ih =>
    by_cases h0 : (n + 1) % 43 = 0
    · exact (scr_A m c ⟨n + 1, hn⟩ h0).trans (norm_point m c _)
    · rw [outsAt0_B m c ⟨n + 1, hn⟩ h0]
      show (outsAt0 m c n _).2 = _
      rw [ih (by omega)]
      congr 1
      apply Fin.ext
      show n / 43 = (n + 1) / 43
      omega

/-- What a point that runs the norm leaves in the output's block. -/
theorem out_A (c : Dev nD) (t : Fin cfg0.N) (h0 : t.val % 43 = 0) :
    (outsAt0 m c t.val t.isLt).1 = k0_pay2 (HNB m c (bOf t)) (iblk m c 4 t) (iblk m c 5 t) := by
  rw [← norm_point, ← scr_A m c t h0, outsAt0_A m c t h0]
  funext y
  frame_out
  refine congrArg (fun z => k0_pay2 z (iblk m c 4 t) (iblk m c 5 t) y) (Eq.trans (View.readCov_eq_canon_ld (View.whole cc0_scratch0) _ (Rect.unit ![0, 0] ![1024, 4096] inb_S1024x4096_S1024x4096_0_0) ?_) ?_)
  · intro y
    exact View.cover_of_tiledL _ ![32, 4096] (by sl_kernel_rfl) y
  · exact View.ld_unit_lit' _ _ (by decide)

/-- What a point that finds the rows already there leaves in the output's block. -/
theorem out_B (c : Dev nD) (t : Fin cfg0.N) (h0 : ¬t.val % 43 = 0) :
    (outsAt0 m c t.val t.isLt).1 = k0_pay2 (HNB m c (bOf t)) (iblk m c 4 t) (iblk m c 5 t) := by
  have h := scr m c ⟨t.val - 1, by omega⟩
  rw [outsAt0_B m c t h0]
  funext y
  frame_out
  rw [h]
  have hb : (bOf ⟨t.val - 1, by omega⟩) = bOf t := by
    apply Fin.ext
    show (t.val - 1) / 43 = t.val / 43
    omega
  rw [hb]
  exact congrArg (fun z => k0_pay2 z (iblk m c 4 t) (iblk m c 5 t) y) ((Memref.isWhole_whole cc0_scratch0).read_unread _)

/-- After the run the result array is the reference's. -/
theorem final (c : Dev nD) : (dats m 0 c).arrAt 6 (cfgs 0).N
    = GLU (HNm m c) (m ((c : Thread nD τ).loc main_arg4)) (m ((c : Thread nD τ).loc main_arg5)) := by
  refine (dats m 0 c).arrAt_eq_of_covers 6 _ (by decide +kernel) fun t hf y => ?_
  blk_simp; rw [after0_6]
  by_cases h0 : t.val % 43 = 0
  · rw [out_A m c t h0]; exact point m c t y
  · rw [out_B m c t h0]; exact point m c t y

end Cert.FfnUp

end
-- ==== Proof.Down.lean ====
/- Hand-written: the value of the second feed-forward product with its gated residual. -/
module

public import proofs.«01_k».proof.Proof.Gen.Kernel3Ideal.Value
public import proofs.«01_k».proof.Proof.Gen.Reference3Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Down

section
open Cert.Reference3Ideal Cert.Reference3Ideal.Gen

/-- What the reference computes, over its four arguments: the residual plus the gate times the product. -/
def REF (a : FVec Ideal S16384x11008 .bf16) (w : FVec Ideal S4x11008x4096 .f32) (x : FVec Ideal S16384x4096 .f32)
    (g : FVec Ideal S4x1x4096 .f32) : FVec Ideal S16384x4096 .f32 :=
  shapeCast _ (addf (shapeCast _ x shapeCasts_S16384x4096_S4x4096x4096) (mulf (broadcastInDim S4x4096x4096 ![0, 1, 2] bcast_S4x1x4096_S4x4096x4096_0_1_2 g)
    (Host.dotGeneral dot_S4x4096x11008_S11008x4096_S4x4096x4096_2_0_01_1_n_n none (shapeCast _ (extf .f32 a bitsLt_bf16_f32) shapeCasts_S16384x11008_S4x4096x11008)
      (shapeCast _ (extractStridedSlice S1x11008x4096 ![0, 0, 0] w slices_S4x11008x4096_S1x11008x4096_0_0_0) shapeCasts_S1x11008x4096_S11008x4096)))) shapeCasts_S4x4096x4096_S16384x4096
end

open Cert.Kernel3Ideal Cert.Kernel3Ideal.Gen

variable (m : (ℓ : Loc nD τ sig) → Buf (Elt Ideal) ℓ)

/-- Which block of its array each window holds at each grid point. -/
theorem idx_val : ∀ t : Fin cfg0.N, win0_0.index t = ![t.val / 16, 0]
    ∧ win0_1.index t = ![0, 0, t.val % 16]
    ∧ win0_2.index t = ![t.val / 16, t.val % 16]
    ∧ win0_3.index t = ![t.val / 64, 0, t.val % 16]
    ∧ win0_4.index t = ![t.val / 16, t.val % 16] :=
  (by decide +kernel : ∀ t : Fin grid0.N, _)

/-- What the body stores at an index of its block is the reference at the index of the array it sits at. -/
theorem point (c : Dev nD) (t : Fin cfg0.N) (y) :
    k0_pay1 (iblk m c 2 t) (iblk m c 3 t) (iblk m c 0 t) (iblk m c 1 t) y
      = REF (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, REF]
  blk_point [iblk, V, idx_val t]

/-- After the run the result array is the reference's. -/
theorem final (c : Dev nD) : (dats m 0 c).arrAt 4 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp; rw [after0_4]; frame_out
  exact point m c t y

end Cert.Down

end
-- ==== Proof.OutProj.lean ====
/- Hand-written: the value of the output projection with its gated residual. -/
module

public import proofs.«01_k».proof.Proof.Gen.Kernel4Ideal.Value
public import proofs.«01_k».proof.Proof.Gen.Reference4Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProj

section
open Cert.Reference4Ideal Cert.Reference4Ideal.Gen

/-- What the reference computes, over its four arguments: the residual plus the gate times the product. -/
def REF (a : FVec Ideal S16384x4096 .bf16) (w : FVec Ideal S4x4096x4096 .f32) (x : FVec Ideal S16384x4096 .f32)
    (g : FVec Ideal S4x1x4096 .f32) : FVec Ideal S16384x4096 .f32 :=
  shapeCast _ (addf (shapeCast _ x shapeCasts_S16384x4096_S4x4096x4096) (mulf (broadcastInDim S4x4096x4096 ![0, 1, 2] bcast_S4x1x4096_S4x4096x4096_0_1_2 g)
    (Host.dotGeneral dot_S4x4096x4096_S4096x4096_S4x4096x4096_2_0_01_1_n_n none (shapeCast _ (extf .f32 a bitsLt_bf16_f32) shapeCasts_S16384x4096_S4x4096x4096)
      (shapeCast _ (extractStridedSlice S1x4096x4096 ![0, 0, 0] w slices_S4x4096x4096_S1x4096x4096_0_0_0) shapeCasts_S1x4096x4096_S4096x4096)))) shapeCasts_S4x4096x4096_S16384x4096
end

open Cert.Kernel4Ideal Cert.Kernel4Ideal.Gen

variable (m : (ℓ : Loc nD τ sig) → Buf (Elt Ideal) ℓ)

/-- Which block of its array each window holds at each grid point. -/
theorem idx_val : ∀ t : Fin cfg0.N, win0_0.index t = ![t.val / 8, 0]
    ∧ win0_1.index t = ![0, 0, t.val % 8]
    ∧ win0_2.index t = ![t.val / 8, t.val % 8]
    ∧ win0_3.index t = ![t.val / 32, 0, t.val % 8]
    ∧ win0_4.index t = ![t.val / 8, t.val % 8] :=
  (by decide +kernel : ∀ t : Fin grid0.N, _)

/-- What the body stores at an index of its block is the reference at the index of the array it sits at. -/
theorem point (c : Dev nD) (t : Fin cfg0.N) (y) :
    k0_pay1 (iblk m c 2 t) (iblk m c 3 t) (iblk m c 0 t) (iblk m c 1 t) y
      = REF (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, REF]
  blk_point [iblk, V, idx_val t]

/-- After the run the result array is the reference's. -/
theorem final (c : Dev nD) : (dats m 0 c).arrAt 4 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp; rw [after0_4]; frame_out
  exact point m c t y

end Cert.OutProj

end
-- ==== Proof.Merge.lean ====
/- Hand-written: the value of the merge of the three branches: their gated sum, the third branch first through its own gate. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

section
open Cert.Reference5Ideal Cert.Reference5Ideal.Gen

/-- The third branch through its own gate, as the reference computes it. -/
def GATED (yc : FVec Ideal S16384x1024 .bf16) (gw : FVec Ideal S4x1024x1024 .f32) (gb : FVec Ideal S1024 .f32) : FVec Ideal S16384x1024 .f32 :=
  mulf (extf .f32 yc bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (Host.dotGeneral dot_S16384x1024_S1024x1024_S16384x1024_1_0_0_1_n_n none (extf .f32 yc bitsLt_bf16_f32) (shapeCast _ (extractStridedSlice S1x1024x1024 ![0, 0, 0] gw slices_S4x1024x1024_S1x1024x1024_0_0_0) shapeCasts_S1x1024x1024_S1024x1024)) (broadcastInDim S16384x1024 ![0, 1] bcast_S1x1024_S16384x1024_0_1 (broadcastInDim S1x1024 ![1] bcast_S1024_S1x1024_1 gb)))))))

/-- The gate of a branch, of the low-rank rows, a branch's weights and its bias. -/
def SIG (g : FVec Ideal S16384x384 .f32) (w : FVec Ideal S1x1x256x4096 .f32) (b : FVec Ideal S1x4096 .f32) : FVec Ideal S16384x4096 .f32 :=
  Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x256_S256x4096_S16384x4096_1_0_0_1_n_n none (extractStridedSlice S16384x256 ![0, 0] g slices_S16384x384_S16384x256_0_0) (shapeCast _ w shapeCasts_S1x1x256x4096_S256x4096)) (broadcastInDim S16384x4096 ![0, 1] bcast_S1x4096_S16384x4096_0_1 (broadcastInDim S1x4096 ![1] bcast_S4096_S1x4096_1 (shapeCast _ b shapeCasts_S1x4096_S4096)))))))

/-- A branch's product with its weights. -/
def BR (y : FVec Ideal S16384x1024 .f32) (w : FVec Ideal S1x1x1024x4096 .f32) : FVec Ideal S16384x4096 .f32 :=
  Host.dotGeneral dot_S16384x1024_S1024x4096_S16384x4096_1_0_0_1_n_n none y (shapeCast _ w shapeCasts_S1x1x1024x4096_S1024x4096)

/-- The gated sum of the branches, over the third branch's gated rows. -/
def SUM (ya yb : FVec Ideal S16384x1024 .bf16) (yc : FVec Ideal S16384x1024 .f32) (g : FVec Ideal S16384x384 .f32) (wg : FVec Ideal S4x3x256x4096 .f32) (bg : FVec Ideal S3x4096 .f32) (wb : FVec Ideal S4x3x1024x4096 .f32) : FVec Ideal S16384x4096 .bf16 :=
  truncf .bf16 (addf (addf (addf (broadcastInDim S16384x4096 ![] bcast_S_S16384x4096 (constant S_ .f32 0x00000000#32))
    (mulf (SIG g (extractStridedSlice S1x1x256x4096 ![0, 0, 0, 0] wg slices_S4x3x256x4096_S1x1x256x4096_0_0_0_0) (extractStridedSlice S1x4096 ![0, 0] bg slices_S3x4096_S1x4096_0_0)) (BR (extf .f32 ya bitsLt_bf16_f32) (extractStridedSlice S1x1x1024x4096 ![0, 0, 0, 0] wb slices_S4x3x1024x4096_S1x1x1024x4096_0_0_0_0))))
    (mulf (SIG g (extractStridedSlice S1x1x256x4096 ![0, 1, 0, 0] wg slices_S4x3x256x4096_S1x1x256x4096_0_1_0_0) (extractStridedSlice S1x4096 ![1, 0] bg slices_S3x4096_S1x4096_1_0)) (BR (extf .f32 yb bitsLt_bf16_f32) (extractStridedSlice S1x1x1024x4096 ![0, 1, 0, 0] wb slices_S4x3x1024x4096_S1x1x1024x4096_0_1_0_0))))
    (mulf (SIG g (extractStridedSlice S1x1x256x4096 ![0, 2, 0, 0] wg slices_S4x3x256x4096_S1x1x256x4096_0_2_0_0) (extractStridedSlice S1x4096 ![2, 0] bg slices_S3x4096_S1x4096_2_0)) (BR yc (extractStridedSlice S1x1x1024x4096 ![0, 2, 0, 0] wb slices_S4x3x1024x4096_S1x1x1024x4096_0_2_0_0)))) bitsLt_bf16_f32

/-- The reference's result is that sum. -/
theorem res_eq (m : (ℓ : Loc nD τ sig) → Buf (Elt Ideal) ℓ) (c : Dev nD) :
    Cert.Reference5Ideal.Value.res_main_v75 m c
      = SUM (m ((c.tc : Thread nD τ).loc main_arg0)) (m ((c.tc : Thread nD τ).loc main_arg1))
        (GATED (m ((c.tc : Thread nD τ).loc main_arg2)) (m ((c.tc : Thread nD τ).loc main_arg4)) (m ((c.tc : Thread nD τ).loc main_arg5)))
        (m ((c.tc : Thread nD τ).loc main_arg3)) (m ((c.tc : Thread nD τ).loc main_arg6)) (m ((c.tc : Thread nD τ).loc main_arg7)) (m ((c.tc : Thread nD τ).loc main_arg8)) := rfl
end

open Cert.Kernel5Ideal Cert.Kernel5Ideal.Gen

variable (m : (ℓ : Loc nD τ sig) → Buf (Elt Ideal) ℓ)

/-- Which block of its array each window holds at each grid point. -/
theorem idx_val : ∀ t : Fin cfg0.N, win0_0.index t = ![t.val / 8, 0]
    ∧ win0_1.index t = ![t.val / 8, 0]
    ∧ win0_2.index t = ![t.val / 8, 0]
    ∧ win0_3.index t = ![t.val / 8, 0]
    ∧ win0_4.index t = ![0, 0, 0]
    ∧ win0_5.index t = ![0, 0]
    ∧ win0_6.index t = ![0, 0, 0, t.val % 8]
    ∧ win0_7.index t = ![0, 0, t.val % 8]
    ∧ win0_8.index t = ![0, 0, 0, t.val % 8]
    ∧ win0_9.index t = ![t.val / 8, t.val % 8] :=
  (by decide +kernel : ∀ t : Fin grid0.N, _)

/-- The reference's gated third branch, of its arguments in memory. -/
abbrev GATEDm (c : Dev nD) := GATED (m ((c : Thread nD τ).loc main_arg2)) (m ((c : Thread nD τ).loc main_arg4)) (m ((c : Thread nD τ).loc main_arg5))

/-- One block of 1024 of its rows. -/
def GB (c : Dev nD) (b : Fin 16) : FVec Ideal S1024x1024 .bf16 :=
  fun y => GATEDm m c (ix2 ⟨1024 * b.val + (show Fin 1024 from y 0).val, by omega⟩ (y 1))

/-- The block of grid point `t`. -/
abbrev bOf (t : Fin cfg0.N) : Fin 16 := ⟨t.val / 8, by have := t.isLt; have h : cfg0.N = 128 := rfl; omega⟩

/-- What a point that gates the third branch stores is the reference's block of it. -/
theorem gate_point (c : Dev nD) (t : Fin cfg0.N) :
    k0_pay2 (iblk m c 2 t) (iblk m c 4 t) (iblk m c 5 t) = GB m c (bOf t) := by
  funext y
  idx_vars y
  pointwise [k0_pay2, GB, GATED]
  simp only [Ideal.logistic]
  blk_point [iblk, V, idx_val t]

/-- What the scratch holds after a point that gates the third branch. -/
theorem scr_A (c : Dev nD) (t : Fin cfg0.N) (h0 : t.val % 8 = 0) :
    (outsAt0 m c t.val t.isLt).2 = k0_pay2 (iblk m c 2 t) (iblk m c 4 t) (iblk m c 5 t) := by
  rw [outsAt0_A m c t h0]
  funext y
  frame_out

/-- What the body stores in the output's block, of the blocks and of the scratch. -/
def OUT (Xa Xb : Vec Ideal S1024x1024 .bf16) (g : Vec Ideal S1024x256 .f32) (wg : Vec Ideal S1x3x256x512 .bf16) (bg : Vec Ideal S3x1x512 .f32) (wb : Vec Ideal S1x3x1024x512 .bf16) (yc : Vec Ideal S1024x1024 .bf16) : FVec Ideal S1024x512 .bf16 :=
  k0_pay1 (k0_pay3 g) Xb yc
      (k0_pay4 g Xa
        (View.ld wg (Rect.unit ![0, 0, 0, 0] ![1, 1, 256, 512] inb_S1x3x256x512_S1x1x256x512_0_0_0_0))
        (View.ld bg (Rect.unit ![0, 0, 0] ![1, 1, 512] inb_S3x1x512_S1x1x512_0_0_0))
        (View.ld wb (Rect.unit ![0, 0, 0, 0] ![1, 1, 1024, 512] inb_S1x3x1024x512_S1x1x1024x512_0_0_0_0)))
      (k0_pay5 g
        (View.ld wg (Rect.unit ![0, 1, 0, 0] ![1, 1, 256, 512] inb_S1x3x256x512_S1x1x256x512_0_1_0_0)))
      (k0_pay6 (View.ld bg (Rect.unit ![1, 0, 0] ![1, 1, 512] inb_S3x1x512_S1x1x512_1_0_0)))
      (View.ld wb (Rect.unit ![0, 1, 0, 0] ![1, 1, 1024, 512] inb_S1x3x1024x512_S1x1x1024x512_0_1_0_0))
      (View.ld wg (Rect.unit ![0, 2, 0, 0] ![1, 1, 256, 512] inb_S1x3x256x512_S1x1x256x512_0_2_0_0))
      (View.ld bg (Rect.unit ![2, 0, 0] ![1, 1, 512] inb_S3x1x512_S1x1x512_2_0_0))
      (View.ld wb (Rect.unit ![0, 2, 0, 0] ![1, 1, 1024, 512] inb_S1x3x1024x512_S1x1x1024x512_0_2_0_0))

/-- After any point the scratch holds the reference's gated rows of the point's block. -/
theorem scr (c : Dev nD) (t : Fin cfg0.N) : (outsAt0 m c t.val t.isLt).2 = GB m c (bOf t) := by
  obtain ⟨n, hn⟩ := t
  induction n with
  | zero => exact (scr_A m c ⟨0, hn⟩ rfl).trans (gate_point m c _)
  | succ n ih =>
    by_cases h0 : (n + 1) % 8 = 0
    · exact (scr_A m c ⟨n + 1, hn⟩ h0).trans (gate_point m c _)
    · rw [outsAt0_B m c ⟨n + 1, hn⟩ h0]
      show (outsAt0 m c n _).2 = _
      rw [ih (by omega)]
      congr 1
      apply Fin.ext
      show n / 8 = (n + 1) / 8
      omega

/-- What a point that gates the third branch leaves in the output's block. -/
theorem out_A (c : Dev nD) (t : Fin cfg0.N) (h0 : t.val % 8 = 0) :
    (outsAt0 m c t.val t.isLt).1 = OUT (iblk m c 0 t) (iblk m c 1 t) (X0_3 m c t) (iblk m c 6 t) (iblk m c 7 t) (iblk m c 8 t) (GB m c (bOf t)) := by
  rw [← gate_point, outsAt0_A m c t h0]
  funext y
  frame_out
  rfl

/-- What a point that finds the gated branch already there leaves in the output's block. -/
theorem out_B (c : Dev nD) (t : Fin cfg0.N) (h0 : ¬t.val % 8 = 0) :
    (outsAt0 m c t.val t.isLt).1 = OUT (iblk m c 0 t) (iblk m c 1 t) (X0_3 m c t) (iblk m c 6 t) (iblk m c 7 t) (iblk m c 8 t) (GB m c (bOf t)) := by
  have h := scr m c ⟨t.val - 1, by omega⟩
  rw [outsAt0_B m c t h0]
  funext y
  frame_out
  have hb : (bOf ⟨t.val - 1, by omega⟩) = bOf t := by
    apply Fin.ext
    show (t.val - 1) / 8 = t.val / 8
    omega
  rw [← hb, ← h]
  exact congrArg (fun z => OUT (iblk m c 0 t) (iblk m c 1 t) (X0_3 m c t) (iblk m c 6 t) (iblk m c 7 t) (iblk m c 8 t) z y) ((Memref.isWhole_whole cc0_scratch0).read_unread _)

/-- The reference's sum, of its arguments in memory. -/
abbrev SUMm (c : Dev nD) (H) := SUM (m ((c : Thread nD τ).loc main_arg0)) (m ((c : Thread nD τ).loc main_arg1)) H (m ((c : Thread nD τ).loc main_arg3)) (m ((c : Thread nD τ).loc main_arg6)) (m ((c : Thread nD τ).loc main_arg7)) (m ((c : Thread nD τ).loc main_arg8))

/-- The block of low-rank rows at a grid point, read at an index. -/
theorem low_rank (c : Dev nD) (t : Fin cfg0.N) (y : S1024x256.Idx) (z : S16384x384.Idx)
    (h0 : (z 0).val = 1024 * (t.val / 8) + (y 0).val) (h1 : (z 1).val = (y 1).val) :
    X0_3 m c t y = m ((c : Thread nD τ).loc main_arg3) z := by
  unfold X0_3 Pipeline.Window.fill
  rw [dif_pos (moved0_3 t y)]
  show m ((c : Thread nD τ).loc main_arg3) _ = _
  congr 1
  funext d
  apply Fin.ext
  fin_cases d
  · show win0_3.index t (0 : Fin 2) * 1024 + 1 * (y 0).val = (z 0).val
    rw [(idx_val t).2.2.2.1, h0]
    show t.val / 8 * 1024 + 1 * (y 0).val = _
    omega
  · show win0_3.index t (1 : Fin 2) * 256 + 1 * (y 1).val = (z 1).val
    rw [(idx_val t).2.2.2.1, h1]
    show 0 * 256 + 1 * (y 1).val = _
    omega

/-- The gated sum of the blocks is the reference's. -/
theorem point (c : Dev nD) (t : Fin cfg0.N) (y) :
    OUT (iblk m c 0 t) (iblk m c 1 t) (X0_3 m c t) (iblk m c 6 t) (iblk m c 7 t) (iblk m c 8 t) (GB m c (bOf t)) y
      = SUMm m c (GATEDm m c) (((cfg0.win 9).blk t).view.emb y) := by
  pointwise [OUT, k0_pay1, k0_pay3, k0_pay4, k0_pay5, k0_pay6, GB, SUM, SIG, BR]
  generalize GATEDm m c = H
  simp only [Ideal.logistic, zero_add, View.ld_apply]
  blk_point [iblk, V, idx_val t]
  refine low_rank m c t (ix2 (y 0) x) _ ?_ rfl
  show win0_9.index t (0 : Fin 2) * 1024 + 1 * (y 0).val = _
  rw [(idx_val t).2.2.2.2.2.2.2.2.2]
  show t.val / 8 * 1024 + 1 * (y 0).val = _
  have : ((ix2 (y 0) x : S1024x256.Idx) 0).val = (y 0).val := rfl
  omega

/-- After the run the result array is the reference's. -/
theorem final (c : Dev nD) : (dats m 0 c).arrAt 9 (cfgs 0).N = SUMm m c (GATEDm m c) := by
  refine (dats m 0 c).arrAt_eq_of_covers 9 _ (by decide +kernel) fun t hf y => ?_
  blk_simp; rw [after0_9]
  by_cases h0 : t.val % 8 = 0
  · rw [out_A m c t h0]; exact point m c t y
  · rw [out_B m c t h0]; exact point m c t y

end Cert.Merge

end
-- ==== Proof.InProjRun.lean ====
/- The body of the input projection (Kernel6Ideal) run once: the first point of a token tile, where it normalises the tile
   and writes the small projection, and the later points, where it only multiplies. -/
module

public import proofs.«01_k».proof.Proof.Gen.Kernel6Ideal.Frame
public import proofs.«01_k».proof.Proof.Gen.Kernel6Ideal.Skeleton
public import proofs.«01_k».proof.Proof.Gen.Kernel6Ideal.Loops

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-- The body is at the first point of a token tile. -/
abbrev AtFirst (i : grid0.Coords) : Prop := k0_cond1 i = 1#1

/-- A point is the first of its tile when it is a multiple of 16. -/
theorem first_iff (t : Fin cfg0.N) : AtFirst (grid0.coords t) ↔ t.val % 16 = 0 := by
  have ht : t.val < 256 := Nat.lt_of_lt_of_eq t.isLt N_0
  have e1 : ((grid0.coords t) 1).val = t.val / 1 % 16 := Pipeline.Grid.coords_val t 1 (by decide) rfl
  simp only [AtFirst, k0_cond1, e1]
  word_cmp

/-- The rows the loop stores tile the held tile, so a later read of it sees only them. -/
theorem held_read (𝒱 : Variants) (d : Dev nD) (bd : Option 𝒱.V) (i : grid0.Coords)
    (arg2 : Memref sig .tc .vmem S1024x4096 .f32) (harg2 : arg2.IsWhole)
    (arg3 : Memref sig .tc .vmem S1x4096 .f32) (harg3 : arg3.IsWhole)
    (arg4 : Memref sig .tc .vmem S1x1x4096 .f32) (harg4 : arg4.IsWhole)
    (arg5 : Memref sig .tc .vmem S1x1x4096 .f32) (harg5 : arg5.IsWhole)
    (arg6 : Memref sig .tc .vmem S4096x512 .bf16) (harg6 : arg6.IsWhole)
    (arg7 : Memref sig .tc .vmem S4096x384 .bf16) (harg7 : arg7.IsWhole)
    (arg8 : Memref sig .tc .vmem S1x384 .f32) (harg8 : arg8.IsWhole)
    (arg9 : Memref sig .tc .vmem S1024x512 .bf16) (harg9 : arg9.IsWhole)
    (arg10 : Memref sig .tc .vmem S1024x384 .f32) (harg10 : arg10.IsWhole)
    (arg11 : Memref sig .tc .vmem S1024x4096 .bf16) (harg11 : arg11.IsWhole)
    (hi : k0_cond1 i = 1#1) (u : Vec F S1x4096 .f32) (v : Vec F S1x1x4096 .f32) (w : Vec F S1x1x4096 .f32)
    (X : BufTy.Contents (Elt F) arg2.view.ty) (f : BufTy.Contents (Elt F) arg11.view.ty) (B : LoadRect S1024x4096) :
    arg11.view.readAt (Elt F) B (arg11.view.writes (Elt F) f (pb_k0_t1 (F := F) 𝒱 d bd i arg2 harg2 arg3 harg3 arg4 harg4 arg5 harg5 arg6 harg6 arg7 harg7 arg8 harg8 arg9 harg9 arg10 harg10 arg11 harg11 hi u v w X (Scf.trips k0_t1_loop.lb k0_t1_loop.ub k0_t1_loop.st)))
      = arg11.view.readCov (pb_k0_t1 (F := F) 𝒱 d bd i arg2 harg2 arg3 harg3 arg4 harg4 arg5 harg5 arg6 harg6 arg7 harg7 arg8 harg8 arg9 harg9 arg10 harg10 arg11 harg11 hi u v w X (Scf.trips k0_t1_loop.lb k0_t1_loop.ub k0_t1_loop.st)) B :=
  View.readAt_writes_of_cover _ f _ B (fun j => View.cover_of_tiledL (pb_k0_t1 (F := F) 𝒱 d bd i arg2 harg2 arg3 harg3 arg4 harg4 arg5 harg5 arg6 harg6 arg7 harg7 arg8 harg8 arg9 harg9 arg10 harg10 arg11 harg11 hi u v w X (Scf.trips k0_t1_loop.lb k0_t1_loop.ub k0_t1_loop.st)) S32x4096.size (by sl_kernel_rfl) (B.idx j))

set_option backward.proofsInPublic true in
set_option maxHeartbeats 1000000 in
/-- The run at the first point of a tile: the pieces stored into the two results' blocks and into the held tile. -/
def firstRun (c : Dev nD) (i : grid0.Coords)
    (arg2 : Memref sig .tc .vmem S1024x4096 .f32) (harg2 : arg2.IsWhole)
    (arg3 : Memref sig .tc .vmem S1x4096 .f32) (harg3 : arg3.IsWhole)
    (arg4 : Memref sig .tc .vmem S1x1x4096 .f32) (harg4 : arg4.IsWhole)
    (arg5 : Memref sig .tc .vmem S1x1x4096 .f32) (harg5 : arg5.IsWhole)
    (arg6 : Memref sig .tc .vmem S4096x512 .bf16) (harg6 : arg6.IsWhole)
    (arg7 : Memref sig .tc .vmem S4096x384 .bf16) (harg7 : arg7.IsWhole)
    (arg8 : Memref sig .tc .vmem S1x384 .f32) (harg8 : arg8.IsWhole)
    (arg9 : Memref sig .tc .vmem S1024x512 .bf16) (harg9 : arg9.IsWhole)
    (arg10 : Memref sig .tc .vmem S1024x384 .f32) (harg10 : arg10.IsWhole)
    (arg11 : Memref sig .tc .vmem S1024x4096 .bf16) (harg11 : arg11.IsWhole) (hi : AtFirst i)
    (x0 : Vec F S1024x4096 .f32) (x1 : Vec F S1x4096 .f32) (x2 : Vec F S1x1x4096 .f32) (x3 : Vec F S1x1x4096 .f32) (x4 : Vec F S4096x512 .bf16) (x5 : Vec F S4096x384 .bf16) (x6 : Vec F S1x384 .f32) :
    Σ' (L7 : List (View.Piece (Elt F) S1024x512 .bf16)) (L8 : List (View.Piece (Elt F) S1024x384 .f32)), { L9 : List (View.Piece (Elt F) S1024x4096 .bf16) //
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ Q ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) Q } := by
  refine ⟨?_, ?_, ?_, fun E Q => ?run⟩
  case run =>
    simp only [cc0_in_projection_eq_skeleton]; unfold cc0_in_projection_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    have held := @held_read F _
    sl_exec (disch := first | sl_exact hi)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

set_option maxHeartbeats 1000000 in
/-- The run at a later point of a tile: the pieces stored into the first result's block; the second result's block
    and the held tile are left as they were. -/
def laterRun (c : Dev nD) (i : grid0.Coords)
    (arg2 : Memref sig .tc .vmem S1024x4096 .f32) (harg2 : arg2.IsWhole)
    (arg3 : Memref sig .tc .vmem S1x4096 .f32) (harg3 : arg3.IsWhole)
    (arg4 : Memref sig .tc .vmem S1x1x4096 .f32) (harg4 : arg4.IsWhole)
    (arg5 : Memref sig .tc .vmem S1x1x4096 .f32) (harg5 : arg5.IsWhole)
    (arg6 : Memref sig .tc .vmem S4096x512 .bf16) (harg6 : arg6.IsWhole)
    (arg7 : Memref sig .tc .vmem S4096x384 .bf16) (harg7 : arg7.IsWhole)
    (arg8 : Memref sig .tc .vmem S1x384 .f32) (harg8 : arg8.IsWhole)
    (arg9 : Memref sig .tc .vmem S1024x512 .bf16) (harg9 : arg9.IsWhole)
    (arg10 : Memref sig .tc .vmem S1024x384 .f32) (harg10 : arg10.IsWhole)
    (arg11 : Memref sig .tc .vmem S1024x4096 .bf16) (harg11 : arg11.IsWhole) (hi : ¬AtFirst i)
    (x0 : Vec F S1024x4096 .f32) (x1 : Vec F S1x4096 .f32) (x2 : Vec F S1x1x4096 .f32) (x3 : Vec F S1x1x4096 .f32) (x4 : Vec F S4096x512 .bf16) (x5 : Vec F S4096x384 .bf16) (x6 : Vec F S1x384 .f32) (x8 : Vec F S1024x384 .f32) (x9 : Vec F S1024x4096 .bf16) :
    { L7 : List (View.Piece (Elt F) S1024x512 .bf16) //
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8 ∗ owns (c : Thread nD τ) arg11 fullShare x9) -∗ Q ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) Q } := by
  refine ⟨?_, fun E Q => ?run⟩
  case run =>
    simp only [cc0_in_projection_eq_skeleton]; unfold cc0_in_projection_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hi)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.Kernel6Ideal.Proj

end
-- ==== Proof.InProjFrame.lean ====
/- The frame of the input projection (Kernel6Ideal): what each point leaves, the body's obligation, the run of the program.
   The second result's block is written at the first point of a token tile and carried, untouched, to the last one. -/
module

public import proofs.«01_k».proof.Proof.InProjRun
public import proofs.«01_k».proof.Proof.Gen.Kernel6Ideal.Launch
public import proofs.«01_k».proof.Proof.Gen.Kernel6Ideal.Points
public import Idealize.ShloMosaic.Lib.Claim

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at a point, and that it is whole. -/
abbrev st0 (t : Fin cfg0.N) : Memref sig .tc .vmem S1024x4096 .f32 := win0_0.stage (cfg0.slots t 0)
/-- Window 0's staging buffer is whole. -/
abbrev hst0 (t : Fin cfg0.N) : (st0 t).IsWhole := hstage0_0 ((cfg0.slots t 0).cast nbuf0_0)
/-- Window 1's staging buffer at a point, and that it is whole. -/
abbrev st1 (t : Fin cfg0.N) : Memref sig .tc .vmem S1x4096 .f32 := win0_1.stage (cfg0.slots t 1)
/-- Window 1's staging buffer is whole. -/
abbrev hst1 (t : Fin cfg0.N) : (st1 t).IsWhole := hstage0_1 ((cfg0.slots t 1).cast nbuf0_1)
/-- Window 2's staging buffer at a point, and that it is whole. -/
abbrev st2 (t : Fin cfg0.N) : Memref sig .tc .vmem S1x1x4096 .f32 := win0_2.stage (cfg0.slots t 2)
/-- Window 2's staging buffer is whole. -/
abbrev hst2 (t : Fin cfg0.N) : (st2 t).IsWhole := hstage0_2 ((cfg0.slots t 2).cast nbuf0_2)
/-- Window 3's staging buffer at a point, and that it is whole. -/
abbrev st3 (t : Fin cfg0.N) : Memref sig .tc .vmem S1x1x4096 .f32 := win0_3.stage (cfg0.slots t 3)
/-- Window 3's staging buffer is whole. -/
abbrev hst3 (t : Fin cfg0.N) : (st3 t).IsWhole := hstage0_3 ((cfg0.slots t 3).cast nbuf0_3)
/-- Window 4's staging buffer at a point, and that it is whole. -/
abbrev st4 (t : Fin cfg0.N) : Memref sig .tc .vmem S4096x512 .bf16 := win0_4.stage (cfg0.slots t 4)
/-- Window 4's staging buffer is whole. -/
abbrev hst4 (t : Fin cfg0.N) : (st4 t).IsWhole := hstage0_4 ((cfg0.slots t 4).cast nbuf0_4)
/-- Window 5's staging buffer at a point, and that it is whole. -/
abbrev st5 (t : Fin cfg0.N) : Memref sig .tc .vmem S4096x384 .bf16 := win0_5.stage (cfg0.slots t 5)
/-- Window 5's staging buffer is whole. -/
abbrev hst5 (t : Fin cfg0.N) : (st5 t).IsWhole := hstage0_5 ((cfg0.slots t 5).cast nbuf0_5)
/-- Window 6's staging buffer at a point, and that it is whole. -/
abbrev st6 (t : Fin cfg0.N) : Memref sig .tc .vmem S1x384 .f32 := win0_6.stage (cfg0.slots t 6)
/-- Window 6's staging buffer is whole. -/
abbrev hst6 (t : Fin cfg0.N) : (st6 t).IsWhole := hstage0_6 ((cfg0.slots t 6).cast nbuf0_6)
/-- Window 7's staging buffer at a point, and that it is whole. -/
abbrev st7 (t : Fin cfg0.N) : Memref sig .tc .vmem S1024x512 .bf16 := win0_7.stage (cfg0.slots t 7)
/-- Window 7's staging buffer is whole. -/
abbrev hst7 (t : Fin cfg0.N) : (st7 t).IsWhole := hstage0_7 ((cfg0.slots t 7).cast nbuf0_7)
/-- Window 8's staging buffer at a point, and that it is whole. -/
abbrev st8 (t : Fin cfg0.N) : Memref sig .tc .vmem S1024x384 .f32 := win0_8.stage (cfg0.slots t 8)
/-- Window 8's staging buffer is whole. -/
abbrev hst8 (t : Fin cfg0.N) : (st8 t).IsWhole := hstage0_8 ((cfg0.slots t 8).cast nbuf0_8)
/-- The held normalised tile. -/
abbrev sc : Memref sig .tc .vmem S1024x4096 .bf16 := Memref.whole cc0_scratch0
/-- One staging buffer of the first result, to read stored pieces through. -/
abbrev V7 : View sig .tc .vmem S1024x512 .bf16 := (Memref.whole cc0_stg7_0 : Memref sig .tc .vmem S1024x512 .bf16).view
/-- One staging buffer of the second result, to read stored pieces through. -/
abbrev V8 : View sig .tc .vmem S1024x384 .f32 := (Memref.whole cc0_stg8_0 : Memref sig .tc .vmem S1024x384 .f32).view

/-- The run at the first point `t` of a tile, on that point's buffers and blocks. -/
abbrev runF (c : Dev nD) (t : Fin cfg0.N) (h0 : t.val % 16 = 0) :=
  firstRun (F := F) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) sc (Memref.isWhole_whole _) ((first_iff t).mpr h0) (iblk m c 0 t) (iblk m c 1 t) (iblk m c 2 t) (iblk m c 3 t) (iblk m c 4 t) (iblk m c 5 t) (iblk m c 6 t)

/-- The run at a later point `t`, over what the earlier points left. -/
abbrev runL (c : Dev nD) (t : Fin cfg0.N) (h0 : ¬t.val % 16 = 0) (x8 : Vec F S1024x384 .f32) (x9 : Vec F S1024x4096 .bf16) :=
  laterRun (F := F) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) sc (Memref.isWhole_whole _) (fun h => h0 ((first_iff t).mp h)) (iblk m c 0 t) (iblk m c 1 t) (iblk m c 2 t) (iblk m c 3 t) (iblk m c 4 t) (iblk m c 5 t) (iblk m c 6 t) x8 x9

/-- The first point's store covers the first result's block. -/
theorem first_cover_7 (c : Dev nD) (t : Fin cfg0.N) (h0 : t.val % 16 = 0) (y : S1024x512.Idx) : ∃ pc ∈ (runF m c t h0).1, y ∈ pc.1.set :=
  View.cover_of_tiledL (runF m c t h0).1 S1024x512.size (by sl_kernel_rfl) y
/-- The first point's store covers the second result's block. -/
theorem first_cover_8 (c : Dev nD) (t : Fin cfg0.N) (h0 : t.val % 16 = 0) (y : S1024x384.Idx) : ∃ pc ∈ (runF m c t h0).2.1, y ∈ pc.1.set :=
  View.cover_of_tiledL (runF m c t h0).2.1 S1024x384.size (by sl_kernel_rfl) y
/-- The first point's stores cover the held tile. -/
theorem first_cover_9 (c : Dev nD) (t : Fin cfg0.N) (h0 : t.val % 16 = 0) (y : S1024x4096.Idx) : ∃ pc ∈ (runF m c t h0).2.2.1, y ∈ pc.1.set :=
  View.cover_of_tiledL (runF m c t h0).2.2.1 S32x4096.size (by sl_kernel_rfl) y
/-- A later point's store covers the first result's block. -/
theorem later_cover_7 (c : Dev nD) (t : Fin cfg0.N) (h0 : ¬t.val % 16 = 0) (x8 : Vec F S1024x384 .f32) (x9 : Vec F S1024x4096 .bf16) (y : S1024x512.Idx) :
    ∃ pc ∈ (runL m c t h0 x8 x9).1, y ∈ pc.1.set :=
  View.cover_of_tiledL (runL m c t h0 x8 x9).1 S1024x512.size (by sl_kernel_rfl) y

/-- The first point of the tile of point `t`. -/
def start (t : Fin cfg0.N) : Fin cfg0.N := ⟨t.val - t.val % 16, Nat.lt_of_le_of_lt (Nat.sub_le _ _) t.isLt⟩
/-- It is a multiple of 16. -/
theorem start_mod (t : Fin cfg0.N) : (start t).val % 16 = 0 := by
  show (t.val - t.val % 16) % 16 = 0; omega
/-- A first point starts its own tile. -/
theorem start_first (t : Fin cfg0.N) (h0 : t.val % 16 = 0) : start t = t := Fin.ext (by show t.val - t.val % 16 = t.val; omega)
/-- A later point's tile starts where the tile of the point before does. -/
theorem start_pred (t : Fin cfg0.N) (h0 : ¬t.val % 16 = 0) (h : t.val - 1 < cfg0.N) : start ⟨t.val - 1, h⟩ = start t :=
  Fin.ext (by show t.val - 1 - (t.val - 1) % 16 = t.val - t.val % 16; omega)

/-- The held tile after point `t`: what the first point of the tile stored. -/
def heldAt (c : Dev nD) (t : Fin cfg0.N) : Vec F S1024x4096 .bf16 :=
  sc.view.read (Elt F) (sc.view.writes (Elt F) sc.view.junk (runF m c (start t) (start_mod t)).2.2.1)
/-- The second result's block after point `t`: what the first point of the tile stored. -/
def smallAt (c : Dev nD) (t : Fin cfg0.N) : Vec F S1024x384 .f32 :=
  V8.read (Elt F) (V8.writes (Elt F) V8.junk (runF m c (start t) (start_mod t)).2.1)
/-- The first result's block after point `t`. -/
def projAt (c : Dev nD) (t : Fin cfg0.N) : Vec F S1024x512 .bf16 :=
  if h0 : t.val % 16 = 0 then V7.read (Elt F) (V7.writes (Elt F) V7.junk (runF m c t h0).1)
  else V7.read (Elt F) (V7.writes (Elt F) V7.junk (runL m c t h0 (smallAt m c t) (heldAt m c t)).1)

/-- The held tile at a first point. -/
theorem heldAt_first (c : Dev nD) (t : Fin cfg0.N) (h0 : t.val % 16 = 0) :
    heldAt m c t = sc.view.read (Elt F) (sc.view.writes (Elt F) sc.view.junk (runF m c t h0).2.2.1) := by
  have key : ∀ (s : Fin cfg0.N) (hs : s.val % 16 = 0), s = t →
      sc.view.read (Elt F) (sc.view.writes (Elt F) sc.view.junk (runF m c s hs).2.2.1)
        = sc.view.read (Elt F) (sc.view.writes (Elt F) sc.view.junk (runF m c t h0).2.2.1) := by
    intro s hs e; subst e; rfl
  exact key _ _ (start_first t h0)
/-- The second result's block at a first point. -/
theorem smallAt_first (c : Dev nD) (t : Fin cfg0.N) (h0 : t.val % 16 = 0) :
    smallAt m c t = V8.read (Elt F) (V8.writes (Elt F) V8.junk (runF m c t h0).2.1) := by
  have key : ∀ (s : Fin cfg0.N) (hs : s.val % 16 = 0), s = t →
      V8.read (Elt F) (V8.writes (Elt F) V8.junk (runF m c s hs).2.1)
        = V8.read (Elt F) (V8.writes (Elt F) V8.junk (runF m c t h0).2.1) := by
    intro s hs e; subst e; rfl
  exact key _ _ (start_first t h0)
/-- The held tile at a later point is the one of the point before. -/
theorem heldAt_pred (c : Dev nD) (t : Fin cfg0.N) (h0 : ¬t.val % 16 = 0) (h : t.val - 1 < cfg0.N) :
    heldAt m c ⟨t.val - 1, h⟩ = heldAt m c t := by
  have key : ∀ (s s' : Fin cfg0.N) (hs : s.val % 16 = 0) (hs' : s'.val % 16 = 0), s = s' →
      sc.view.read (Elt F) (sc.view.writes (Elt F) sc.view.junk (runF m c s hs).2.2.1)
        = sc.view.read (Elt F) (sc.view.writes (Elt F) sc.view.junk (runF m c s' hs').2.2.1) := by
    intro s s' hs hs' e; subst e; rfl
  exact key _ _ _ _ (start_pred t h0 h)
/-- The second result's block at a later point is the one of the point before. -/
theorem smallAt_pred (c : Dev nD) (t : Fin cfg0.N) (h0 : ¬t.val % 16 = 0) (h : t.val - 1 < cfg0.N) :
    smallAt m c ⟨t.val - 1, h⟩ = smallAt m c t := by
  have key : ∀ (s s' : Fin cfg0.N) (hs : s.val % 16 = 0) (hs' : s'.val % 16 = 0), s = s' →
      V8.read (Elt F) (V8.writes (Elt F) V8.junk (runF m c s hs).2.1)
        = V8.read (Elt F) (V8.writes (Elt F) V8.junk (runF m c s' hs').2.1) := by
    intro s s' hs hs' e; subst e; rfl
  exact key _ _ _ _ (start_pred t h0 h)
/-- The first result's block at a first point. -/
theorem projAt_first (c : Dev nD) (t : Fin cfg0.N) (h0 : t.val % 16 = 0) :
    projAt m c t = V7.read (Elt F) (V7.writes (Elt F) V7.junk (runF m c t h0).1) := dif_pos h0
/-- The first result's block at a later point. -/
theorem projAt_later (c : Dev nD) (t : Fin cfg0.N) (h0 : ¬t.val % 16 = 0) :
    projAt m c t = V7.read (Elt F) (V7.writes (Elt F) V7.junk (runL m c t h0 (smallAt m c t) (heldAt m c t)).1) := dif_neg h0

/-- What the region keeps between points: the held tile (at anything before the first point) and the generator's state. -/
def Inv (c : Dev nD) : (n : ℕ) → n ≤ cfg0.N → sProp 𝕄
  | 0, _ => Pipeline.ΦA spec0 c
  | n + 1, hn => iprop(owns (c : Thread nD τ) sc fullShare (heldAt m c ⟨n, hn⟩) ∗ (∃ r, prngReg c r))

/-- The invariant before the first point. -/
theorem Inv_zero (c : Dev nD) (n : ℕ) (h : n ≤ cfg0.N) (hz : n = 0) : Inv m c n h = Pipeline.ΦA spec0 c := by
  subst hz; rfl
/-- The invariant after a point. -/
theorem Inv_succ (c : Dev nD) (t : Fin cfg0.N) :
    Inv m c (t.val + 1) t.isLt = iprop(owns (c : Thread nD τ) sc fullShare (heldAt m c t) ∗ (∃ r, prngReg c r)) := rfl
/-- The invariant before a point that is not the first. -/
theorem Inv_pos (c : Dev nD) (n : ℕ) (h : n ≤ cfg0.N) (hz : n ≠ 0) :
    Inv m c n h = iprop(owns (c : Thread nD τ) sc fullShare (heldAt m c ⟨n - 1, by omega⟩) ∗ (∃ r, prngReg c r)) := by
  cases n with
  | zero => exact absurd rfl hz
  | succ n => rfl
/-- The launch's scoped rest is the held tile at anything and the generator's state. -/
theorem rest_eq (c : Dev nD) :
    (Pipeline.ΦA spec0 c : sProp 𝕄) = iprop((∃ d, owns (c : Thread nD τ) sc fullShare d) ∗ (∃ r, prngReg c r)) := by
  unfold Pipeline.ΦA; rw [scopedRest0_eq]; simp only [sc, owns_whole]
  rfl

/-- The proof data: the arrays as the region finds them, what each point leaves in the buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => projAt m c t
    | ⟨8, _⟩ => smallAt m c t
  Φ t := Inv m c t.val (Nat.le_of_lt_succ t.isLt)
  q _ := fullShare
  owed _ := 0

/-- The arrays are the contents at the region's entry. -/
theorem A_eq (c : Dev nD) (w : Fin cfg0.W) : (dats m 0 c).A w = V m c (Pipeline.arrRef spec0 w) := by
  dsimp only [dats]
/-- The invariant at a point's start. -/
theorem inv_start (c : Dev nD) (t : Fin cfg0.N) : (dats m 0 c).Φ t.castSucc = Inv m c t.val (Nat.le_of_lt t.isLt) := by
  dsimp only [dats]; exact Pipeline.Dat.Φ_castSucc (Inv m c) t
/-- What window 0's buffer holds after a point. -/
theorem after_0 (c : Dev nD) (t : Fin cfg0.N) : (dats m 0 c).after 0 t = iblk m c 0 t := by dsimp only [dats]
/-- What window 1's buffer holds after a point. -/
theorem after_1 (c : Dev nD) (t : Fin cfg0.N) : (dats m 0 c).after 1 t = iblk m c 1 t := by dsimp only [dats]
/-- What window 2's buffer holds after a point. -/
theorem after_2 (c : Dev nD) (t : Fin cfg0.N) : (dats m 0 c).after 2 t = iblk m c 2 t := by dsimp only [dats]
/-- What window 3's buffer holds after a point. -/
theorem after_3 (c : Dev nD) (t : Fin cfg0.N) : (dats m 0 c).after 3 t = iblk m c 3 t := by dsimp only [dats]
/-- What window 4's buffer holds after a point. -/
theorem after_4 (c : Dev nD) (t : Fin cfg0.N) : (dats m 0 c).after 4 t = iblk m c 4 t := by dsimp only [dats]
/-- What window 5's buffer holds after a point. -/
theorem after_5 (c : Dev nD) (t : Fin cfg0.N) : (dats m 0 c).after 5 t = iblk m c 5 t := by dsimp only [dats]
/-- What window 6's buffer holds after a point. -/
theorem after_6 (c : Dev nD) (t : Fin cfg0.N) : (dats m 0 c).after 6 t = iblk m c 6 t := by dsimp only [dats]
/-- What window 7's buffer holds after a point. -/
theorem after_7 (c : Dev nD) (t : Fin cfg0.N) : (dats m 0 c).after 7 t = projAt m c t := by dsimp only [dats]
/-- What window 8's buffer holds after a point. -/
theorem after_8 (c : Dev nD) (t : Fin cfg0.N) : (dats m 0 c).after 8 t = smallAt m c t := by dsimp only [dats]
/-- What input window 0's buffer holds before a point. -/
theorem before_0 (c : Dev nD) (t : Fin cfg0.N) (d) : (dats m 0 c).before 0 t d = iblk m c 0 t :=
  before0_0_of m (dats m 0 c) (A_eq m c 0) (after_0 m c) t d
/-- What input window 1's buffer holds before a point. -/
theorem before_1 (c : Dev nD) (t : Fin cfg0.N) (d) : (dats m 0 c).before 1 t d = iblk m c 1 t :=
  before0_1_of m (dats m 0 c) (A_eq m c 1) (after_1 m c) t d
/-- What input window 2's buffer holds before a point. -/
theorem before_2 (c : Dev nD) (t : Fin cfg0.N) (d) : (dats m 0 c).before 2 t d = iblk m c 2 t :=
  before0_2_of m (dats m 0 c) (A_eq m c 2) (after_2 m c) t d
/-- What input window 3's buffer holds before a point. -/
theorem before_3 (c : Dev nD) (t : Fin cfg0.N) (d) : (dats m 0 c).before 3 t d = iblk m c 3 t :=
  before0_3_of m (dats m 0 c) (A_eq m c 3) (after_3 m c) t d
/-- What input window 4's buffer holds before a point. -/
theorem before_4 (c : Dev nD) (t : Fin cfg0.N) (d) : (dats m 0 c).before 4 t d = iblk m c 4 t :=
  before0_4_of m (dats m 0 c) (A_eq m c 4) (after_4 m c) t d
/-- What input window 5's buffer holds before a point. -/
theorem before_5 (c : Dev nD) (t : Fin cfg0.N) (d) : (dats m 0 c).before 5 t d = iblk m c 5 t :=
  before0_5_of m (dats m 0 c) (A_eq m c 5) (after_5 m c) t d
/-- What input window 6's buffer holds before a point. -/
theorem before_6 (c : Dev nD) (t : Fin cfg0.N) (d) : (dats m 0 c).before 6 t d = iblk m c 6 t :=
  before0_6_of m (dats m 0 c) (A_eq m c 6) (after_6 m c) t d
/-- The body touches the second result's buffer at the first points only. -/
theorem idle_first (t : Fin cfg0.N) (h0 : t.val % 16 = 0) : cfg0.idle 8 (cfg0.grid.coords t) = false := by
  show (!(k0_cond1 (grid0.coords t) == 1#1)) = false
  rw [show k0_cond1 (grid0.coords t) = 1#1 from (first_iff t).mpr h0]; rfl
/-- At a later point the body leaves the second result's buffer alone. -/
theorem idle_later (t : Fin cfg0.N) (h0 : ¬t.val % 16 = 0) : cfg0.idle 8 (cfg0.grid.coords t) = true := by
  show (!(k0_cond1 (grid0.coords t) == 1#1)) = true
  rw [beq_eq_false_iff_ne.mpr (fun h => h0 ((first_iff t).mp h))]; rfl
/-- At a later point of a tile the second result's buffer holds the block the first point stored. -/
theorem before_8 (c : Dev nD) (d) : ∀ (n : ℕ) (hn : n < cfg0.N), ¬n % 16 = 0 → (dats m 0 c).before 8 ⟨n, hn⟩ d = smallAt m c ⟨n, hn⟩ := by
  intro n
  induction n with
  | zero => intro _ h; exact absurd rfl h
  | succ n ih =>
    intro hn h0
    have hl : n < cfg0.N := Nat.lt_of_succ_lt hn
    have hf : (cfg0.win 8).flush ⟨n, hl⟩ = false := by
      rw [← Bool.not_eq_true, flush0_8 ⟨n, hl⟩]; dsimp only; omega
    have hp : smallAt m c ⟨n, hl⟩ = smallAt m c ⟨n + 1, hn⟩ := smallAt_pred m c ⟨n + 1, hn⟩ h0 hl
    rw [(dats m 0 c).before_of_pos 8 ⟨n + 1, hn⟩ (Nat.succ_ne_zero n) ((cfg0.win 8).fetch_out rfl _) d]
    show (if (cfg0.win 8).flush ⟨n, hl⟩ then d else (dats m 0 c).left 8 ⟨n, hl⟩ d) = _
    rw [hf, if_neg Bool.false_ne_true, ← hp]
    unfold Dat.left
    by_cases h1 : n % 16 = 0
    · rw [idle_first ⟨n, hl⟩ h1]
      dsimp only
      unfold Dat.kept
      rw [Pipeline.fill_of_clip_none (cfg := cfg0) 8 _ (fun _ => rfl) d ((dats m 0 c).after 8 ⟨n, hl⟩), Window.fill_cut, after_8]
    · rw [idle_later ⟨n, hl⟩ h1]
      exact ih hl h1
/-- What the body owes of the second result's buffer at a first point. -/
theorem leaves_first (c : Dev nD) (t : Fin cfg0.N) (h0 : t.val % 16 = 0) :
    (dats m 0 c).leavesExact 8 t = owns (c : Thread nD τ) (st8 t) fullShare ((dats m 0 c).after 8 t) := by
  unfold Dat.leavesExact; rw [idle_first t h0]
/-- What the body owes of the second result's buffer at a later point: the block the first point stored. -/
theorem leaves_later (c : Dev nD) (t : Fin cfg0.N) (h0 : ¬t.val % 16 = 0) :
    owns (c : Thread nD τ) (st8 t) fullShare (smallAt m c t) ⊢ (dats m 0 c).leavesExact 8 t := by
  unfold Dat.leavesExact; rw [idle_later t h0]
  cases hf : (cfg0.win 8).flush t
  · iintro H; iexists smallAt m c t
    rw [before_8 m c (smallAt m c t) t.val t.isLt h0]; iexact H
  · dsimp only; rw [after_8]; try exact Idealize.SL.BI.Entails.refl _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ (dats m 0 c).leavesExact 8 t)

set_option maxHeartbeats 6400000 in
/-- The body at the first point of a tile. -/
theorem body_first (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = Inv m c (t.val + 1) t.isLt from rfl, Inv_succ, inv_start m c t]
  rw [heldAt_first m c t h0, leaves_first m c t h0, after_8, smallAt_first m c t h0, projAt_first m c t h0]
  by_cases hz : t.val = 0
  · rw [Inv_zero m c _ _ hz, rest_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun c (grid0.coords t) _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, ⟨%e9, HS⟩⟩
    isplitl [HS Hg]
    · isplitl [HS]
      · unfold owns; iexists _; isplitr
        swap; · iexact HS
        ipureintro; exact View.read_writes_of_cover _ _ _ _ _ (first_cover_9 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (first_cover_7 m c t h0)
    unfold owns; iexists _; isplitr
    swap; · iexact H8
    ipureintro; exact View.read_writes_of_cover _ _ _ _ _ (first_cover_8 m c t h0)
  · rw [Inv_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun c (grid0.coords t) _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexists _; iexact HS
    iintro ⟨H0, H1, H2, H3, H4, H5, H6, ⟨%e7, H7⟩, ⟨%e8, H8⟩, ⟨%e9, HS⟩⟩
    isplitl [HS Hg]
    · isplitl [HS]
      · unfold owns; iexists _; isplitr
        swap; · iexact HS
        ipureintro; exact View.read_writes_of_cover _ _ _ _ _ (first_cover_9 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (first_cover_7 m c t h0)
    unfold owns; iexists _; isplitr
    swap; · iexact H8
    ipureintro; exact View.read_writes_of_cover _ _ _ _ _ (first_cover_8 m c t h0)

set_option maxHeartbeats 6400000 in
/-- The body at a later point of a tile. -/
theorem body_later (c : Dev nD) (t : Fin cfg0.N) (h0 : ¬t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_8 m c _ t.val t.isLt h0]
  rw [show (dats m 0 c).owesAt () t.succ = (dats m 0 c).owesAt () t.castSucc from rfl,
    after_0, after_1, after_2, after_3, after_4, after_5, after_6, after_7]
  rw [show (dats m 0 c).Φ t.succ = Inv m c (t.val + 1) t.isLt from rfl, Inv_succ, inv_start m c t]
  rw [Inv_pos m c _ _ (by omega), heldAt_pred m c t h0, projAt_later m c t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((laterRun c (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (smallAt m c t) (heldAt m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, ⟨%e7, H7⟩, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (later_cover_7 m c t h0 (smallAt m c t) (heldAt m c t))
  iapply (leaves_later m c t h0)
  iexact H8

/-- The body table's row at a point is the body at its buffers. -/
theorem row_eq (t : Fin cfg0.N) : defs₀ (F := F) .tc cfg0.body (cfg0.bodyArgs t (cfg0.slots t)) = bodyAt0 t := by
  unfold defs₀; rw [Defs.onTc_tc]
/-- The body's obligation at every point. -/
theorem obligation (c : Dev nD) : BodyObligation (dats (F := F) m 0 c) (defs₀ (F := F)) Variants.none () Set.univ := fun t => by
  rw [bigSep_W0, bigSep_W0, row_eq]
  exact triple_restated ((Classical.em (t.val % 16 = 0)).elim (body_first m c t) (body_later m c t)) rfl .rfl fun _ => .rfl
/-- The launch gives the invariant before the first point. -/
theorem inv_in (c : Dev nD) : Pipeline.ΦA spec0 c ⊢ (dats m 0 c).Φ 0 := by
  rw [show (dats m 0 c).Φ 0 = Inv m c 0 (Nat.zero_le _) from rfl, Inv_zero m c 0 _ rfl]
/-- The invariant after the last point gives the scoped rest back. -/
theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 256 := N_0; omega), rest_eq]
  iintro ⟨HS, Hg⟩
  isplitl [HS]
  · iexists _; iexact HS
  iexact Hg

set_option backward.isDefEq.respectTransparency.types false in
/-- Every run of the program ends with the arrays at what the proof data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)
/-- The same without the counters. -/
theorem run_main : θ_run defs (onTc (τ := τ) (main (F := F))) (s₀ m ρ) (Pipeline.FramePost cfgs (dats m) 0 (V m)) :=
  (θ_run defs _ _).mono (fun _ h => h.1) (run_quiet m ρ)
/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.Kernel6Ideal.Proj

end
-- ==== Proof.InProj.lean ====
/- Hand-written: the value of the input projection, from the layer's norm to the branches' rows and the gates. -/
module

public import proofs.«01_k».proof.Proof.InProjFrame
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

section
open Cert.Reference6Ideal Cert.Reference6Ideal.Gen

/-- The normed, scaled and shifted rows as the reference computes them. -/
def HN (x : FVec Ideal S16384x4096 .f32) (w : FVec Ideal S4096 .f32) (sc sh : FVec Ideal S4x1x4096 .f32) : FVec Ideal S4x4096x4096 .f32 :=
  (addf (mulf (mulf (mulf (shapeCast _ x shapeCasts_S16384x4096_S4x4096x4096) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (shapeCast _ x shapeCasts_S16384x4096_S4x4096x4096) (shapeCast _ x shapeCasts_S16384x4096_S4x4096x4096)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 w))) (broadcastInDim S4x4096x4096 ![0, 1, 2] bcast_S4x1x4096_S4x4096x4096_0_1_2 (addf (broadcastInDim S4x1x4096 ![] bcast_S_S4x1x4096 (constant S_ .f32 0x3F800000#32)) sc))) (broadcastInDim S4x4096x4096 ![0, 1, 2] bcast_S4x1x4096_S4x4096x4096_0_1_2 sh))

/-- The product of such rows with the whole projection's weights. -/
def DOT (h : FVec Ideal S4x4096x4096 .f32) (w : FVec Ideal S4096x8480 .f32) : FVec Ideal S4x4096x8480 .f32 :=
  Host.dotGeneral dot_S4x4096x4096_S4096x8480_S4x4096x8480_2_0_01_1_n_n none h w

/-- The reference's first result: the branches' columns of the product, side by side. -/
def BR (h : FVec Ideal S4x4096x4096 .f32) (w : FVec Ideal S4096x8480 .f32) : FVec Ideal S16384x8192 .bf16 :=
  truncf .bf16 (shapeCast _ (concatenate S4x4096x8192 2 [⟨S4x4096x7168, (extractStridedSlice S4x4096x7168 ![0, 0, 0] (DOT h w) slices_S4x4096x8480_S4x4096x7168_0_0_0)⟩, ⟨S4x4096x1024, (extractStridedSlice S4x4096x1024 ![0, 0, 7200] (DOT h w) slices_S4x4096x8480_S4x4096x1024_0_0_7200)⟩] concatenates_S4x4096x7168_S4x4096x1024_S4x4096x8192_d2) shapeCasts_S4x4096x8192_S16384x8192) bitsLt_bf16_f32

/-- The reference's second result: the last columns, then the gates with their bias, then zeros. -/
def SM (h : FVec Ideal S4x4096x4096 .f32) (w : FVec Ideal S4096x8480 .f32) (b : FVec Ideal S32 .f32) : FVec Ideal S16384x384 .f32 :=
  shapeCast _ (pad S4x4096x384 ![0, 0, 0] ![0, 0, 96] ![0, 0, 0] (concatenate S4x4096x288 2 [⟨S4x4096x256, (extractStridedSlice S4x4096x256 ![0, 0, 8224] (DOT h w) slices_S4x4096x8480_S4x4096x256_0_0_8224)⟩, ⟨S4x4096x32, (addf (extractStridedSlice S4x4096x32 ![0, 0, 7168] (DOT h w) slices_S4x4096x8480_S4x4096x32_0_0_7168) (broadcastInDim S4x4096x32 ![0, 1, 2] bcast_S1x1x32_S4x4096x32_0_1_2 (broadcastInDim S1x1x32 ![2] bcast_S32_S1x1x32_2 b)))⟩] concatenates_S4x4096x256_S4x4096x32_S4x4096x288_d2) (sitofp .f32 (constantI S_ 32 0#32)) pads_S4x4096x288_S4x4096x384_000_000_0960 h_S_) shapeCasts_S4x4096x384_S16384x384
end

open Cert.Kernel6Ideal Cert.Kernel6Ideal.Gen Cert.Kernel6Ideal.Proj

/-- The normed, scaled and shifted rows of one block of rows. -/
def NORM (X : FVec Ideal S1024x4096 .f32) (w : FVec Ideal S1x4096 .f32) (sc sh : FVec Ideal S1x1x4096 .f32) : FVec Ideal S1024x4096 .bf16 :=
  fun y => (show EReal from X y) * Ideal.rsqrt (Ideal.div (∑ d : Fin 4096, (show EReal from X (ix2 (y 0) d)) * (show EReal from X (ix2 (y 0) d))) (Ideal.ofBits .f32 0x45800000#32) + Ideal.ofBits .f32 0x358637BD#32)
    * (show EReal from w (ix2 0 (y 1))) * (1 + (show EReal from sc (ix3 0 0 (y 1)))) + (show EReal from sh (ix3 0 0 (y 1)))

section
variable {𝒱 : Variants} {c : Dev nD} {bd : Option 𝒱.V} {i : grid0.Coords} {arg2 : Memref sig .tc .vmem S1024x4096 .f32} {harg2 : arg2.IsWhole} {arg3 : Memref sig .tc .vmem S1x4096 .f32} {harg3 : arg3.IsWhole} {arg4 : Memref sig .tc .vmem S1x1x4096 .f32} {harg4 : arg4.IsWhole} {arg5 : Memref sig .tc .vmem S1x1x4096 .f32} {harg5 : arg5.IsWhole} {arg6 : Memref sig .tc .vmem S4096x512 .bf16} {harg6 : arg6.IsWhole} {arg7 : Memref sig .tc .vmem S4096x384 .bf16} {harg7 : arg7.IsWhole} {arg8 : Memref sig .tc .vmem S1x384 .f32} {harg8 : arg8.IsWhole} {arg9 : Memref sig .tc .vmem S1024x512 .bf16} {harg9 : arg9.IsWhole} {arg10 : Memref sig .tc .vmem S1024x384 .f32} {harg10 : arg10.IsWhole} {arg11 : Memref sig .tc .vmem S1024x4096 .bf16} {harg11 : arg11.IsWhole} {h1 : k0_cond1 i = 1#1}
  {v9 : Vec Ideal S1x4096 .f32} {v11 : Vec Ideal S1x1x4096 .f32} {v13 : Vec Ideal S1x1x4096 .f32}
  {X : Vec Ideal S1024x4096 .f32}

/-- What one trip of the norm's loop stores is the normed rows it stores them over. -/
theorem trip_piece (k : Fin k0_t1_loop.trips) :
   ∀ p ∈ tripL_k0_t1 (F := Ideal) 𝒱 c bd i arg2 harg2 arg3 harg3 arg4 harg4 arg5 harg5 arg6 harg6 arg7 harg7 arg8 harg8 arg9 harg9 arg10 harg10 arg11 harg11 h1 v9 v11 v13 (harg2.unread X) k,
     ∀ x, p.2 x = NORM X v9 v11 v13 (p.1.emb x) := by
  unfold tripL_k0_t1 trip_k0_t1
  intro p hp x
  obtain rfl := List.mem_singleton.mp hp
  show k0_pay1 v9 v11 v13 _ x = _
  simp only [View.readAt_eq_ld, harg2.read_unread]
  have hx : ∀ inb, (Rect.unit (s := S1024x4096) (k0_off1 k) S32x4096.size inb).emb x = ix2 ⟨32 * k.val + (show Fin 32 from x 0).val, by have := k.isLt; have h : k0_t1_loop.trips = 32 := rfl; have := (show Fin 32 from x 0).isLt; omega⟩ (show Fin 4096 from x 1) := by
    intro inb
    funext d
    apply Fin.ext
    rw [Rect.emb_apply]
    simp only [k0_off1_eq]
    fin_cases d
    · show 32 * k.val + 1 * (x 0).val = 32 * k.val + (x 0).val
      omega
    · show 0 + 1 * (x 1).val = (x 1).val
      omega
  pointwise [k0_pay1, NORM]
  simp only [View.ld_apply, hx]
  simp only [k0_off1_eq]
  have h0 : ∀ (a : Fin 4096) (p1 : _) (p2 : _), (ix2 ⟨(![32 * k.val, 0] : Fin 2 → ℕ) 0 + (x 0).val, p1⟩ ⟨(![32 * k.val, 0] : Fin 2 → ℕ) 1 + a.val, p2⟩ : S1024x4096.Idx)
      = ix2 ⟨32 * k.val + (show Fin 32 from x 0).val, p1⟩ a := fun a p1 p2 => congrArg (ix2 _) (Fin.ext (Nat.zero_add _))
  have h1 := h0 (show Fin 4096 from x 1)
  simp only [h0]
  erw [h1]
  rfl

/-- Every piece the loop's trips store is such rows. -/
theorem trips_piece : ∀ n, n ≤ k0_t1_loop.trips →
   ∀ p ∈ pb_k0_t1 (F := Ideal) 𝒱 c bd i arg2 harg2 arg3 harg3 arg4 harg4 arg5 harg5 arg6 harg6 arg7 harg7 arg8 harg8 arg9 harg9 arg10 harg10 arg11 harg11 h1 v9 v11 v13 (harg2.unread X) n,
     ∀ x, p.2 x = NORM X v9 v11 v13 (p.1.emb x)
  | 0, _ => fun p hp => absurd hp (List.not_mem_nil)
  | n + 1, hn => fun p hp => by
    rw [pb_k0_t1_succ (k := ⟨n, hn⟩)] at hp
    rcases List.mem_append.mp hp with h | h
    · exact trip_piece _ p h
    · exact trips_piece n (by omega) p h
end

variable (m : (ℓ : Loc nD τ sig) → Buf (Elt Ideal) ℓ)

/-- The weight columns that the branches read, side by side. -/
def WB (w : FVec Ideal S4096x8480 .f32) : FVec Ideal S4096x8192 .bf16 :=
  truncf .bf16 (concatenate S4096x8192 1 [⟨S4096x7168, extractStridedSlice S4096x7168 ![0, 0] w slices_S4096x8480_S4096x7168_0_0⟩, ⟨S4096x1024, extractStridedSlice S4096x1024 ![0, 7200] w slices_S4096x8480_S4096x1024_0_7200⟩] concatenates_S4096x7168_S4096x1024_S4096x8192_d1) bitsLt_bf16_f32
/-- The weight columns of the small projection, padded with zeros. -/
def WS (w : FVec Ideal S4096x8480 .f32) : FVec Ideal S4096x384 .bf16 :=
  truncf .bf16 (pad S4096x384 ![0, 0] ![0, 96] ![0, 0] (concatenate S4096x288 1 [⟨S4096x256, extractStridedSlice S4096x256 ![0, 8224] w slices_S4096x8480_S4096x256_0_8224⟩, ⟨S4096x32, extractStridedSlice S4096x32 ![0, 7168] w slices_S4096x8480_S4096x32_0_7168⟩] concatenates_S4096x256_S4096x32_S4096x288_d1) (sitofp .f32 (constantI S_ 32 0#32)) pads_S4096x288_S4096x384_000_0960 h_S_) bitsLt_bf16_f32
/-- The small projection's bias: zeros, the gates' bias, zeros. -/
def BS (b : FVec Ideal S32 .f32) : FVec Ideal S1x384 .f32 :=
  shapeCast S1x384 (pad S384 ![0] ![96] ![0] (concatenate S288 0 [⟨S256, broadcastInDim S256 ![] bcast_S_S256 (constant (F := Ideal) S_ .f32 0x00000000#32)⟩, ⟨S32, b⟩] concatenates_S256_S32_S288_d0) (sitofp .f32 (constantI S_ 32 0#32)) pads_S288_S384_0960 h_S_) shapeCasts_S384_S1x384

/-- The branches' weights as the region finds them. -/
theorem V_v12 (c : Dev nD) : V m c main_v12 = WB (m ((c : Thread nD τ).loc main_arg4)) := by
  unfold V WB
  simp only [hostOps0, hostOps0_1, hostOps0_2, hostOps0_3, hostOps0_4, StableHlo.TRef.binary, StableHlo.TRef.unary, StableHlo.TRef.toBuf, StableHlo.TRef.ofBuf, cast_eq, List.flatten_cons, List.flatten_nil, List.append_nil, List.cons_append, List.nil_append]
  after_results_simp <;> rfl
/-- The small projection's weights as the region finds them. -/
theorem V_v13 (c : Dev nD) : V m c main_v13 = WS (m ((c : Thread nD τ).loc main_arg4)) := by
  unfold V WS
  simp only [hostOps0, hostOps0_1, hostOps0_2, hostOps0_3, hostOps0_4, StableHlo.TRef.binary, StableHlo.TRef.unary, StableHlo.TRef.toBuf, StableHlo.TRef.ofBuf, cast_eq, List.flatten_cons, List.flatten_nil, List.append_nil, List.cons_append, List.nil_append]
  after_results_simp <;> rfl
/-- The small projection's bias as the region finds it. -/
theorem V_v10 (c : Dev nD) : V m c main_v10 = BS (m ((c : Thread nD τ).loc main_arg5)) := by
  unfold V BS
  simp only [hostOps0, hostOps0_1, hostOps0_2, hostOps0_3, hostOps0_4, StableHlo.TRef.binary, StableHlo.TRef.unary, StableHlo.TRef.toBuf, StableHlo.TRef.ofBuf, cast_eq, List.flatten_cons, List.flatten_nil, List.append_nil, List.cons_append, List.nil_append]
  after_results_simp <;> rfl
/-- The norm's weights as the region finds them. -/
theorem V_v11 (c : Dev nD) : V m c main_v11 = shapeCast S1x4096 (m ((c : Thread nD τ).loc main_arg1)) shapeCasts_S4096_S1x4096 := by
  unfold V
  simp only [hostOps0, hostOps0_1, hostOps0_2, hostOps0_3, hostOps0_4, StableHlo.TRef.binary, StableHlo.TRef.unary, StableHlo.TRef.toBuf, StableHlo.TRef.ofBuf, cast_eq, List.flatten_cons, List.flatten_nil, List.append_nil, List.cons_append, List.nil_append]
  after_results_simp <;> rfl

/-- Which block of its array each window holds at each grid point. -/
theorem idx_val : ∀ t : Fin cfg0.N, win0_0.index t = ![t.val / 16, 0]
    ∧ win0_1.index t = ![0, 0]
    ∧ win0_2.index t = ![t.val / 64, 0, 0]
    ∧ win0_3.index t = ![t.val / 64, 0, 0]
    ∧ win0_4.index t = ![0, t.val % 16]
    ∧ win0_5.index t = ![0, 0]
    ∧ win0_6.index t = ![0, 0]
    ∧ win0_7.index t = ![t.val / 16, t.val % 16]
    ∧ win0_8.index t = ![t.val / 16, 0] :=
  (by decide +kernel : ∀ t : Fin grid0.N, _)

/-- The reference's normed rows, of its arguments in memory. -/
abbrev HNm (c : Dev nD) := HN (m ((c : Thread nD τ).loc main_arg0)) (m ((c : Thread nD τ).loc main_arg1)) (m ((c : Thread nD τ).loc main_arg2)) (m ((c : Thread nD τ).loc main_arg3))

/-- One block of 1024 of them. -/
def HNB (c : Dev nD) (b : Fin 16) : FVec Ideal S1024x4096 .bf16 :=
  fun y => HNm m c (ix3 ⟨b.val / 4, by omega⟩ ⟨1024 * (b.val % 4) + (show Fin 1024 from y 0).val, by omega⟩ (y 1))

/-- The block of grid point `t`. -/
abbrev bOf (t : Fin cfg0.N) : Fin 16 := ⟨t.val / 16, by have := t.isLt; have h : cfg0.N = 256 := rfl; omega⟩

/-- The block of a point is the block of the first point of its tile. -/
theorem bOf_start (t : Fin cfg0.N) : bOf (start t) = bOf t := by
  apply Fin.ext
  show (t.val - t.val % 16) / 16 = t.val / 16
  omega

/-- A vector as a row. -/
theorem row_eq (w : FVec Ideal S4096 .f32) : shapeCast S1x4096 w shapeCasts_S4096_S1x4096 = fun z : S1x4096.Idx => w (ix1 (z 1)) := by
  funext z
  idx_vars z
  obtain rfl : z0 = 0 := Subsingleton.elim _ _
  pointwise

/-- The normed rows of the blocks at a grid point are the reference's. -/
theorem norm_point (c : Dev nD) (t : Fin cfg0.N) :
    NORM (iblk m c 0 t) (iblk m c 1 t) (iblk m c 2 t) (iblk m c 3 t) = HNB m c (bOf t) := by
  have e1 : iblk m c 1 t = ((cfg0.win 1).blk t).view.read (Elt Ideal) (shapeCast S1x4096 (m ((c : Thread nD τ).loc main_arg1)) shapeCasts_S4096_S1x4096) :=
    congrArg (fun z => ((cfg0.win 1).blk t).view.read (Elt Ideal) z) (V_v11 m c)
  have e0 : iblk m c 0 t = ((cfg0.win 0).blk t).view.read (Elt Ideal) (m ((c : Thread nD τ).loc main_arg0)) :=
    congrArg (fun z => ((cfg0.win 0).blk t).view.read (Elt Ideal) z) (V_main_arg0 m c)
  have e2 : iblk m c 2 t = ((cfg0.win 2).blk t).view.read (Elt Ideal) (m ((c : Thread nD τ).loc main_arg2)) :=
    congrArg (fun z => ((cfg0.win 2).blk t).view.read (Elt Ideal) z) (V_main_arg2 m c)
  have e3 : iblk m c 3 t = ((cfg0.win 3).blk t).view.read (Elt Ideal) (m ((c : Thread nD τ).loc main_arg3)) :=
    congrArg (fun z => ((cfg0.win 3).blk t).view.read (Elt Ideal) z) (V_main_arg3 m c)
  have v1 : shapeCast S1x4096 (m ((c : Thread nD τ).loc main_arg1)) shapeCasts_S4096_S1x4096 = fun z : S1x4096.Idx => (m ((c : Thread nD τ).loc main_arg1)) (ix1 (z 1)) := by
    exact row_eq _
  rw [e0, e1, e2, e3, v1]
  funext y
  idx_vars y
  pointwise [NORM, HNB, HN]
  blk_point [idx_val t]

/-- The padding's value is zero. -/
theorem sitofp_zero_f32 : (FloatOps.sitofp (F := Ideal) .f32 (0#32)) = (0 : EReal) := by
  show ((((0#32 : BitVec 32).toInt : ℤ) : ℝ) : EReal) = 0
  simp

/-- The branches' weights column by column. -/
theorem WB_eq (w : FVec Ideal S4096x8480 .f32) (k : Fin 4096) (j : Fin 8192) :
    WB w (ix2 k j) = if h : j.val < 7168 then w (ix2 k ⟨j.val, by omega⟩) else w (ix2 k ⟨7200 + (j.val - 7168), by omega⟩) := by
  by_cases h : j.val < 7168
  · rw [dif_pos h]; pointwise [WB]; rw [dif_pos h]
  · rw [dif_neg h]; pointwise [WB]; rw [dif_neg h]

/-- The small projection's weights column by column. -/
theorem WS_eq (w : FVec Ideal S4096x8480 .f32) (k : Fin 4096) (j : Fin 384) :
    WS w (ix2 k j) = if h : j.val < 256 then w (ix2 k ⟨8224 + j.val, by omega⟩)
      else if h : j.val < 288 then w (ix2 k ⟨7168 + (j.val - 256), by omega⟩) else (0 : EReal) := by
  by_cases h : j.val < 256
  · rw [dif_pos h]; pointwise [WS]; rw [dif_pos (by omega), dif_pos h]
  · rw [dif_neg h]
    by_cases h' : j.val < 288
    · rw [dif_pos h']; pointwise [WS]; rw [dif_pos h', dif_neg h]
    · rw [dif_neg h']; pointwise [WS]; rw [dif_neg h']; exact sitofp_zero_f32

/-- The small projection's bias column by column. -/
theorem BS_eq (b : FVec Ideal S32 .f32) (j : Fin 384) :
    BS b (ix2 0 j) = if h : j.val < 256 then (0 : EReal)
      else if h : j.val < 288 then b (ix1 ⟨j.val - 256, by omega⟩) else (0 : EReal) := by
  by_cases h : j.val < 256
  · rw [dif_pos h]; pointwise [BS]; rw [dif_pos (by omega), dif_pos h]
  · rw [dif_neg h]
    by_cases h' : j.val < 288
    · rw [dif_pos h']; pointwise [BS]; rw [dif_pos h', dif_neg h]
    · rw [dif_neg h']; pointwise [BS]; rw [dif_neg h']; exact sitofp_zero_f32

/-- A first point leaves the normed rows of its blocks in the scratch. -/
theorem held_first (c : Dev nD) (t : Fin cfg0.N) (h0 : t.val % 16 = 0) :
    heldAt m c t = NORM (iblk m c 0 t) (iblk m c 1 t) (iblk m c 2 t) (iblk m c 3 t) := by
  rw [heldAt_first m c t h0]
  unfold runF
  funext y
  frame_out
  refine View.canon_apply_of_pieces (NORM (iblk m c 0 t) (iblk m c 1 t) (iblk m c 2 t) (iblk m c 3 t)) _ (fun p hp => trips_piece k0_t1_loop.trips le_rfl p hp) y ?_
  exact View.cover_of_tiledL _ ![32, 4096] (by sl_kernel_rfl) y

/-- After any point the scratch holds the reference's normed rows of the point's block. -/
theorem held (c : Dev nD) (t : Fin cfg0.N) : heldAt m c t = HNB m c (bOf t) := by
  have e : heldAt m c t = heldAt m c (start t) := by
    rw [heldAt_first m c (start t) (start_mod t)]; rfl
  rw [e, held_first m c _ (start_mod t), norm_point, bOf_start]

/-- What a first point leaves in the first result's block. -/
theorem proj_first (c : Dev nD) (t : Fin cfg0.N) (h0 : t.val % 16 = 0) :
    projAt m c t = k0_pay3 (HNB m c (bOf t)) (iblk m c 4 t) := by
  rw [← held m c t, heldAt_first m c t h0, projAt_first m c t h0]
  unfold runF
  funext y
  frame_out
  refine congrArg (fun z => k0_pay3 z (iblk m c 4 t) y) (Eq.trans (View.readCov_eq_canon_ld (View.whole cc0_scratch0) _ (Rect.unit ![0, 0] ![1024, 4096] inb_S1024x4096_S1024x4096_0_0) ?_) ?_)
  · intro y
    exact View.cover_of_tiledL _ ![32, 4096] (by sl_kernel_rfl) y
  · exact View.ld_unit_lit' _ _ (by decide)

/-- What a later point leaves in it. -/
theorem proj_later (c : Dev nD) (t : Fin cfg0.N) (h0 : ¬t.val % 16 = 0) :
    projAt m c t = k0_pay3 (HNB m c (bOf t)) (iblk m c 4 t) := by
  rw [projAt_later m c t h0, held m c t]
  generalize HNB m c (bOf t) = H
  generalize smallAt m c t = X
  unfold runL
  funext y
  frame_out
  exact congrArg (fun z => k0_pay3 z (iblk m c 4 t) y) ((Memref.isWhole_whole cc0_scratch0).read_unread _)

/-- What a first point leaves in the second result's block. -/
theorem small_first (c : Dev nD) (t : Fin cfg0.N) (h0 : t.val % 16 = 0) :
    smallAt m c t = k0_pay2 (HNB m c (bOf t)) (iblk m c 5 t) (iblk m c 6 t) := by
  rw [← held m c t, heldAt_first m c t h0, smallAt_first m c t h0]
  unfold runF
  funext y
  frame_out
  refine congrArg (fun z => k0_pay2 z (iblk m c 5 t) (iblk m c 6 t) y) (Eq.trans (View.readCov_eq_canon_ld (View.whole cc0_scratch0) _ (Rect.unit ![0, 0] ![1024, 4096] inb_S1024x4096_S1024x4096_0_0) ?_) ?_)
  · intro y
    exact View.cover_of_tiledL _ ![32, 4096] (by sl_kernel_rfl) y
  · exact View.ld_unit_lit' _ _ (by decide)

/-- The branches' weights that a point reads. -/
theorem iblk4 (c : Dev nD) (t : Fin cfg0.N) (k : Fin 4096) (j : Fin 512) :
    iblk m c 4 t (ix2 k j) = WB (m ((c : Thread nD τ).loc main_arg4)) (ix2 k ⟨t.val % 16 * 512 + j.val, by omega⟩) := by
  rw [show iblk m c 4 t = ((cfg0.win 4).blk t).view.read (Elt Ideal) (WB (m ((c : Thread nD τ).loc main_arg4))) from
    congrArg (fun z => ((cfg0.win 4).blk t).view.read (Elt Ideal) z) (V_v12 m c)]
  generalize WB (m ((c : Thread nD τ).loc main_arg4)) = W
  blk_point [idx_val t]

/-- The small projection's weights that a point reads. -/
theorem iblk5 (c : Dev nD) (t : Fin cfg0.N) (k : Fin 4096) (j : Fin 384) :
    iblk m c 5 t (ix2 k j) = WS (m ((c : Thread nD τ).loc main_arg4)) (ix2 k j) := by
  rw [show iblk m c 5 t = ((cfg0.win 5).blk t).view.read (Elt Ideal) (WS (m ((c : Thread nD τ).loc main_arg4))) from
    congrArg (fun z => ((cfg0.win 5).blk t).view.read (Elt Ideal) z) (V_v13 m c)]
  generalize WS (m ((c : Thread nD τ).loc main_arg4)) = W
  blk_point [idx_val t]

/-- The bias that a point reads. -/
theorem iblk6 (c : Dev nD) (t : Fin cfg0.N) (j : Fin 384) :
    iblk m c 6 t (ix2 0 j) = BS (m ((c : Thread nD τ).loc main_arg5)) (ix2 0 j) := by
  rw [show iblk m c 6 t = ((cfg0.win 6).blk t).view.read (Elt Ideal) (BS (m ((c : Thread nD τ).loc main_arg5))) from
    congrArg (fun z => ((cfg0.win 6).blk t).view.read (Elt Ideal) z) (V_v10 m c)]
  generalize BS (m ((c : Thread nD τ).loc main_arg5)) = W
  blk_point [idx_val t]

/-- A block of the first result, read off an array of its shape. -/
theorem emb7 (t : Fin cfg0.N) (y0 : Fin 1024) (y1 : Fin 512) (A : FVec Ideal S16384x8192 .bf16) :
    A (((cfg0.win 7).blk t).view.emb (ix2 y0 y1))
      = A (ix2 ⟨t.val / 16 * 1024 + y0.val, by have := t.isLt; have h : cfg0.N = 256 := rfl; omega⟩ ⟨t.val % 16 * 512 + y1.val, by omega⟩) := by
  blk_point [idx_val t]

/-- A block of the second result, read off an array of its shape. -/
theorem emb8 (t : Fin cfg0.N) (y0 : Fin 1024) (y1 : Fin 384) (A : FVec Ideal S16384x384 .f32) :
    A (((cfg0.win 8).blk t).view.emb (ix2 y0 y1))
      = A (ix2 ⟨t.val / 16 * 1024 + y0.val, by have := t.isLt; have h : cfg0.N = 256 := rfl; omega⟩ y1) := by
  blk_point [idx_val t]

/-- A row of a point's block, by its place in its batch and by its place among all the rows. -/
theorem row_at (t : Fin cfg0.N) (y0 : Fin 1024) (H : FVec Ideal Cert.Reference6Ideal.S4x4096x4096 .f32) (x : Fin 4096) :
    H (ix3 ⟨t.val / 16 / 4, by have := t.isLt; have h : cfg0.N = 256 := rfl; omega⟩ ⟨1024 * (t.val / 16 % 4) + y0.val, by omega⟩ x)
      = H (ix3 ⟨(t.val / 16 * 1024 + y0.val) / 4096, by have := t.isLt; have h : cfg0.N = 256 := rfl; omega⟩ ⟨(t.val / 16 * 1024 + y0.val) % 4096, by omega⟩ x) := by
  have e : ∀ (a a' : Fin 4) (b b' : Fin 4096), a = a' → b = b' → H (ix3 a b x) = H (ix3 a' b' x) := by
    intro a a' b b' h h'; rw [h, h']
  refine e _ _ _ _ (Fin.ext ?_) (Fin.ext ?_)
  · show t.val / 16 / 4 = (t.val / 16 * 1024 + y0.val) / 4096
    omega
  · show 1024 * (t.val / 16 % 4) + y0.val = (t.val / 16 * 1024 + y0.val) % 4096
    omega

/-- A point's product with its block of weights is the reference's block of branches. -/
theorem point7 (c : Dev nD) (t : Fin cfg0.N) (y : S1024x512.Idx) :
    k0_pay3 (HNB m c (bOf t)) (iblk m c 4 t) y
      = BR (HNm m c) (m ((c : Thread nD τ).loc main_arg4)) (((cfg0.win 7).blk t).view.emb y) := by
  have hw := fun k j => (iblk4 m c t k j).trans (WB_eq _ k _)
  unfold HNB
  generalize HNm m c = H at *
  generalize m ((c : Thread nD τ).loc main_arg4) = A at *
  generalize iblk m c 4 t = W at *
  idx_vars y
  have ht : t.val < 256 := t.isLt
  have hr := row_at t y0 H
  refine Eq.trans ?_ (emb7 t y0 y1 (BR H A)).symm
  by_cases h : t.val % 16 * 512 + y1.val < 7168
  · pointwise [k0_pay3, BR, DOT]
    simp only [hw, dif_pos h, hr]
  · pointwise [k0_pay3, BR, DOT]
    simp only [hw, dif_neg h, hr]

/-- The small projection of a block of rows is the reference's: last columns, gates, zeros. -/
theorem point8 (c : Dev nD) (t : Fin cfg0.N) (y : S1024x384.Idx) :
    k0_pay2 (HNB m c (bOf t)) (iblk m c 5 t) (iblk m c 6 t) y
      = SM (HNm m c) (m ((c : Thread nD τ).loc main_arg4)) (m ((c : Thread nD τ).loc main_arg5)) (((cfg0.win 8).blk t).view.emb y) := by
  have hw := fun k j => (iblk5 m c t k j).trans (WS_eq _ k _)
  have hb := fun j => (iblk6 m c t j).trans (BS_eq _ j)
  unfold HNB
  generalize HNm m c = H at *
  generalize m ((c : Thread nD τ).loc main_arg4) = A at *
  generalize m ((c : Thread nD τ).loc main_arg5) = B at *
  generalize iblk m c 5 t = W at *
  generalize iblk m c 6 t = U at *
  idx_vars y
  have ht : t.val < 256 := t.isLt
  have hr := row_at t y0 H
  refine Eq.trans ?_ (emb8 t y0 y1 (SM H A B)).symm
  by_cases h : y1.val < 256
  · pointwise [k0_pay2, SM, DOT]
    rw [dif_pos (by omega)]
    simp only [hw, hb, dif_pos h, hr, add_zero]
  · by_cases h' : y1.val < 288
    · pointwise [k0_pay2, SM, DOT]
      rw [dif_pos (by omega)]
      simp only [hw, hb, dif_neg h, dif_pos h', hr]
    · pointwise [k0_pay2, SM, DOT]
      rw [dif_neg (by omega)]
      simp only [hw, hb, dif_neg h, dif_neg h', mul_zero, Finset.sum_const_zero, add_zero, sitofp_zero_f32]

/-- After the run the first result array is the reference's. -/
theorem final7 (c : Dev nD) : (dats m 0 c).arrAt 7 (cfgs 0).N
    = BR (HNm m c) (m ((c : Thread nD τ).loc main_arg4)) := by
  refine (dats m 0 c).arrAt_eq_of_covers 7 _ (by decide +kernel) fun t hf y => ?_
  blk_simp; rw [after_7]
  by_cases h0 : t.val % 16 = 0
  · rw [proj_first m c t h0]; exact point7 m c t y
  · rw [proj_later m c t h0]; exact point7 m c t y

/-- What any point leaves in the second result's block. -/
theorem small (c : Dev nD) (t : Fin cfg0.N) :
    smallAt m c t = k0_pay2 (HNB m c (bOf t)) (iblk m c 5 t) (iblk m c 6 t) := by
  have e : smallAt m c t = smallAt m c (start t) := by
    rw [smallAt_first m c (start t) (start_mod t)]; rfl
  rw [e, small_first m c _ (start_mod t), bOf_start]
  have e5 : iblk m c 5 (start t) = iblk m c 5 t := by
    funext y
    idx_vars y
    exact (iblk5 m c (start t) y0 y1).trans (iblk5 m c t y0 y1).symm
  have e6 : iblk m c 6 (start t) = iblk m c 6 t := by
    funext y
    idx_vars y
    obtain rfl : y0 = 0 := Subsingleton.elim _ _
    exact (iblk6 m c (start t) y1).trans (iblk6 m c t y1).symm
  exact congrArg₂ (k0_pay2 (HNB m c (bOf t))) e5 e6

/-- After the run the second result array is the reference's. -/
theorem final8 (c : Dev nD) : (dats m 0 c).arrAt 8 (cfgs 0).N
    = SM (HNm m c) (m ((c : Thread nD τ).loc main_arg4)) (m ((c : Thread nD τ).loc main_arg5)) := by
  refine (dats m 0 c).arrAt_eq_of_covers 8 _ (by decide +kernel) fun t hf y => ?_
  blk_simp; rw [after_8, small m c t]
  exact point8 m c t y

end Cert.InProj

end
-- ==== Proof.FinalNorm.lean ====
/- Hand-written: the value of the final norm. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNorm

section
open Cert.Reference7Ideal Cert.Reference7Ideal.Gen

/-- The reference's normed rows. -/
def RN (x : FVec Ideal S16384x4096 .f32) (w : FVec Ideal S4096 .f32) : FVec Ideal S16384x4096 .f32 :=
  shapeCast _ (mulf (mulf (shapeCast _ x shapeCasts_S16384x4096_S4x4096x4096) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (shapeCast _ x shapeCasts_S16384x4096_S4x4096x4096) (shapeCast _ x shapeCasts_S16384x4096_S4x4096x4096)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 w))) shapeCasts_S4x4096x4096_S16384x4096
end

open Cert.Kernel7Ideal Cert.Kernel7Ideal.Gen

/-- The normed rows of one block of rows. -/
def NORM (X : FVec Ideal S256x4096 .f32) (w : FVec Ideal S1x4096 .f32) : FVec Ideal S256x4096 .f32 :=
  fun y => (show EReal from X y) * Ideal.rsqrt (Ideal.div (∑ d : Fin 4096, (show EReal from X (ix2 (y 0) d)) * (show EReal from X (ix2 (y 0) d))) (Ideal.ofBits .f32 0x45800000#32) + Ideal.ofBits .f32 0x358637BD#32)
    * (show EReal from w (ix2 0 (y 1)))

section
variable {𝒱 : Variants} {c : Dev nD} {bd : Option 𝒱.V} {i : grid0.Coords} {arg1 : Memref sig .tc .vmem S256x4096 .f32} {harg1 : arg1.IsWhole} {arg2 : Memref sig .tc .vmem S1x4096 .f32} {harg2 : arg2.IsWhole} {arg3 : Memref sig .tc .vmem S256x4096 .f32} {harg3 : arg3.IsWhole}
  {v0 : Vec Ideal S1x4096 .f32} {X : Vec Ideal S256x4096 .f32}

/-- What one trip of the norm's loop stores is the normed rows it stores them over. -/
theorem trip_piece (k : Fin k0_t1_loop.trips) :
   ∀ p ∈ tripL_k0_t1 (F := Ideal) 𝒱 c bd i arg1 harg1 arg2 harg2 arg3 harg3 v0 (harg1.unread X) k,
     ∀ x, p.2 x = NORM X v0 (p.1.emb x) := by
  unfold tripL_k0_t1 trip_k0_t1
  intro p hp x
  obtain rfl := List.mem_singleton.mp hp
  show k0_pay1 v0 _ x = _
  simp only [View.readAt_eq_ld, harg1.read_unread]
  have hx : ∀ inb, (Rect.unit (s := S256x4096) (k0_off1 k) S32x4096.size inb).emb x = ix2 ⟨32 * k.val + (show Fin 32 from x 0).val, by have := k.isLt; have h : k0_t1_loop.trips = 8 := rfl; have := (show Fin 32 from x 0).isLt; omega⟩ (show Fin 4096 from x 1) := by
    intro inb
    funext d
    apply Fin.ext
    rw [Rect.emb_apply]
    simp only [k0_off1_eq]
    fin_cases d
    · show 32 * k.val + 1 * (x 0).val = 32 * k.val + (x 0).val
      omega
    · show 0 + 1 * (x 1).val = (x 1).val
      omega
  pointwise [k0_pay1, NORM]
  simp only [View.ld_apply, hx]
  simp only [k0_off1_eq]
  have h0 : ∀ (a : Fin 4096) (p1 : _) (p2 : _), (ix2 ⟨(![32 * k.val, 0] : Fin 2 → ℕ) 0 + (x 0).val, p1⟩ ⟨(![32 * k.val, 0] : Fin 2 → ℕ) 1 + a.val, p2⟩ : S256x4096.Idx)
      = ix2 ⟨32 * k.val + (show Fin 32 from x 0).val, p1⟩ a := fun a p1 p2 => congrArg (ix2 _) (Fin.ext (Nat.zero_add _))
  have h1 := h0 (show Fin 4096 from x 1)
  simp only [h0]
  erw [h1]
  rfl

/-- Every piece the loop's trips store is such rows. -/
theorem trips_piece : ∀ n, n ≤ k0_t1_loop.trips →
   ∀ p ∈ pb_k0_t1 (F := Ideal) 𝒱 c bd i arg1 harg1 arg2 harg2 arg3 harg3 v0 (harg1.unread X) n,
     ∀ x, p.2 x = NORM X v0 (p.1.emb x)
  | 0, _ => fun p hp => absurd hp (List.not_mem_nil)
  | n + 1, hn => fun p hp => by
    rw [pb_k0_t1_succ (k := ⟨n, hn⟩)] at hp
    rcases List.mem_append.mp hp with h | h
    · exact trip_piece _ p h
    · exact trips_piece n (by omega) p h
end

variable (m : (ℓ : Loc nD τ sig) → Buf (Elt Ideal) ℓ)

/-- Which block of its array each window holds at each grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- A row of a point's block in its batch is the same row among all the rows. -/
theorem row_at (t : Fin cfg0.N) (y0 : Fin 256) (y1 : Fin 4096) (A : FVec Ideal S16384x4096 .f32) :
    A (((cfg0.win 2).blk t).view.emb (ix2 y0 y1)) = A (ix2 ⟨t.val * 256 + y0.val, by have := t.isLt; have h : cfg0.N = 64 := rfl; omega⟩ y1) := by
  blk_point [idx_val t]

/-- The normed rows of the blocks at a grid point are the reference's. -/
theorem norm_point (c : Dev nD) (t : Fin cfg0.N) (y : S256x4096.Idx) :
    NORM (iblk m c 0 t) (iblk m c 1 t) y
      = RN (m ((c : Thread nD τ).loc main_arg0)) (m ((c : Thread nD τ).loc main_arg1)) (((cfg0.win 2).blk t).view.emb y) := by
  idx_vars y
  have ht : t.val < 64 := t.isLt
  refine Eq.trans ?_ (row_at t y0 y1 _).symm
  pointwise [NORM, RN]
  blk_point [iblk, V, idx_val t]

/-- What a point leaves in the output's block. -/
theorem out (c : Dev nD) (t : Fin cfg0.N) :
    outsAt0 m c t = NORM (iblk m c 0 t) (iblk m c 1 t) := by
  unfold outsAt0
  funext y
  frame_out
  refine View.canon_apply_of_pieces (NORM (iblk m c 0 t) (iblk m c 1 t)) _ (fun p hp => trips_piece k0_t1_loop.trips le_rfl p hp) y ?_
  exact View.cover_of_tiledL _ ![32, 4096] (by sl_kernel_rfl) y

/-- After the run the result array is the reference's. -/
theorem final (c : Dev nD) : (dats m 0 c).arrAt 2 (cfgs 0).N
    = RN (m ((c : Thread nD τ).loc main_arg0)) (m ((c : Thread nD τ).loc main_arg1)) := by
  refine (dats m 0 c).arrAt_eq_of_covers 2 _ (by decide +kernel) fun t hf y => ?_
  blk_simp; rw [after0_2, out m c t]
  exact norm_point m c t y

end Cert.FinalNorm

end
-- ==== Proof.Modulation.lean ====
/- Hand-written: the value of the modulation. -/
module

public import proofs.«01_k».proof.Proof.Gen.Kernel8Ideal.Frame
public import proofs.«01_k».proof.Proof.Gen.Reference8Ideal.Run
public import Idealize.ShloMosaic.Lib.Pipeline.ValueKit
public import Idealize.ShloMosaic.Lib.Routing.OpsSet
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Modulation

section
open Cert.Reference8Ideal Cert.Reference8Ideal.Gen

/-- The reference's modulation rows. -/
def RM (x : FVec Ideal S4x4096 .f32) (wc : FVec Ideal S4096x256 .f32) (wm : FVec Ideal S4x256x24576 .f32) (bm : FVec Ideal S4x24576 .f32) : FVec Ideal S4x4x24576 .f32 :=
  addf (transpose S4x4x24576 [0, 2, 1] (Host.dotGeneral dot_S4x256x24576_S4x256_S4x24576x4_1_1_02_0_n_n none wm (Host.dotGeneral dot_S4x4096_S4096x256_S4x256_1_0_0_1_n_n none (mulf x (Host.divf (broadcastInDim S4x4096 ![] bcast_S_S4x4096 (constant S_ .f32 0x3F800000#32)) (addf (broadcastInDim S4x4096 ![] bcast_S_S4x4096 (constant S_ .f32 0x3F800000#32)) (Host.exp (Host.negf x))))) wc)) transposes_S4x24576x4_S4x4x24576_0_2_1) (broadcastInDim S4x4x24576 ![0, 1, 2] bcast_S4x1x24576_S4x4x24576_0_1_2 (broadcastInDim S4x1x24576 ![0, 2] bcast_S4x24576_S4x1x24576_0_2 bm))

/-- One condition entry through the reference's `silu`. -/
def SILU (x : EReal) : EReal := x * Ideal.logistic x

/-- The reference's modulation at an entry. -/
theorem rm_eq (x : FVec Ideal S4x4096 .f32) (wc : FVec Ideal S4096x256 .f32) (wm : FVec Ideal S4x256x24576 .f32) (bm : FVec Ideal S4x24576 .f32) (l b : Fin 4) (j : Fin 24576) :
    RM x wc wm bm (ix3 l b j)
      = (∑ k : Fin 256, (∑ d : Fin 4096, SILU (x (ix2 b d)) * (show EReal from wc (ix2 d k))) * (show EReal from wm (ix3 l k j))) + (show EReal from bm (ix2 l j)) := by
  pointwise [RM, SILU]
  simp only [Ideal.logistic]
  exact congrArg (· + _) (Finset.sum_congr rfl fun k _ => mul_comm _ _)
end

open Cert.Kernel8Ideal Cert.Kernel8Ideal.Gen

/-- The zero-padded condition. -/
def PAD (x : FVec Ideal S4x4096 .f32) : FVec Ideal S8x4096 .f32 :=
  Host.scatter scatter_S8x4096_S1_S4x4096_01_n_0_0 (fun _ b => b) (broadcastInDim S8x4096 ![] bcast_S_S8x4096 (constant S_ .f32 0x00000000#32)) (broadcastInDim S1 ![] bcast_S_S1 (constantI S_ 32 0#32)) x

/-- An update of the padding lands at its own place. -/
theorem lands (idx : IVec S1 32) (h : idx = fun _ => 0#32) (b : Fin 4) (d : Fin 4096) :
    scatter_S8x4096_S1_S4x4096_01_n_0_0.resultIdx? (ix2 b d) idx = some (ix2 ⟨b.val, by omega⟩ d) := by
  subst h
  have hs : ∀ a, scatter_S8x4096_S1_S4x4096_01_n_0_0.start (ix2 b d) (fun _ : S1.Idx => 0#32) a = 0 := by
    intro a
    fin_cases a <;> rfl
  have hw0 : scatter_S8x4096_S1_S4x4096_01_n_0_0.window (ix2 b d) 0 = b.val := rfl
  have hw1 : scatter_S8x4096_S1_S4x4096_01_n_0_0.window (ix2 b d) 1 = d.val := rfl
  unfold ScatterDims.resultIdx?
  rw [dif_pos]
  · congr 1
    funext a
    apply Fin.ext
    show (scatter_S8x4096_S1_S4x4096_01_n_0_0.start (ix2 b d) (fun _ : S1.Idx => 0#32) a + scatter_S8x4096_S1_S4x4096_01_n_0_0.window (ix2 b d) a).toNat = _
    rw [hs]
    fin_cases a
    · show ((0 : ℤ) + (scatter_S8x4096_S1_S4x4096_01_n_0_0.window (ix2 b d) 0 : ℕ)).toNat = b.val
      rw [hw0]; omega
    · show ((0 : ℤ) + (scatter_S8x4096_S1_S4x4096_01_n_0_0.window (ix2 b d) 1 : ℕ)).toNat = d.val
      rw [hw1]; omega
  · intro a
    rw [hs]
    fin_cases a
    · show 0 ≤ (0 : ℤ) + (scatter_S8x4096_S1_S4x4096_01_n_0_0.window (ix2 b d) 0 : ℕ) ∧ (0 : ℤ) + (scatter_S8x4096_S1_S4x4096_01_n_0_0.window (ix2 b d) 0 : ℕ) < (8 : ℕ)
      rw [hw0]; omega
    · show 0 ≤ (0 : ℤ) + (scatter_S8x4096_S1_S4x4096_01_n_0_0.window (ix2 b d) 1 : ℕ) ∧ (0 : ℤ) + (scatter_S8x4096_S1_S4x4096_01_n_0_0.window (ix2 b d) 1 : ℕ) < (4096 : ℕ)
      rw [hw1]; omega

/-- The first rows of the padded condition are the condition's. -/
theorem pad_eq (x : FVec Ideal S4x4096 .f32) (b : Fin 4) (d : Fin 4096) :
    PAD x (ix2 ⟨b.val, by omega⟩ d) = x (ix2 b d) := by
  refine Routing.scatter_set_hit _ _ _ _ _ _ ?_ (ix2 b d) (lands _ (funext fun _ => rfl) b d)
  intro k hk
  idx_vars k
  rw [lands (broadcastInDim S1 ![] bcast_S_S1 (constantI S_ 32 0#32)) (funext fun _ => rfl) k0 k1] at hk
  have h0 := congrFun (Option.some.inj hk) 0
  have h1 := congrFun (Option.some.inj hk) 1
  have e0 : k0 = b := Fin.ext (by have h2 := congrArg Fin.val h0; exact h2)
  have e1 : k1 = d := h1
  rw [e0, e1]

variable (m : (ℓ : Loc nD τ sig) → Buf (Elt Ideal) ℓ)

/-- What the first window reads: the padded condition. -/
theorem V_v2 (c : Dev nD) : V m c main_v2 = PAD (m ((c : Thread nD τ).loc main_arg0)) := by
  unfold V V0 PAD
  simp only [hostOps0, List.flatten_cons, List.flatten_nil, List.append_nil]
  after_results_simp <;> rfl

/-- What the last input window reads: the reshaped bias. -/
theorem V_v3 (c : Dev nD) : V m c main_v3 = shapeCast S4x1x24576 (m ((c : Thread nD τ).loc main_arg3)) shapeCasts_S4x24576_S4x1x24576 := by
  unfold V V0
  simp only [hostOps0, List.flatten_cons, List.flatten_nil, List.append_nil]
  after_results_simp <;> rfl

/-- The padded modulation: every row of the padded condition's. -/
def KM (x : FVec Ideal S8x4096 .f32) (wc : FVec Ideal S4096x256 .f32) (wm : FVec Ideal S4x256x24576 .f32) (bm : FVec Ideal S4x24576 .f32) : FVec Ideal S4x8x24576 .f32 :=
  fun y => (∑ k : Fin 256, (∑ d : Fin 4096, SILU (x (ix2 (y 1) d)) * (show EReal from wc (ix2 d k))) * (show EReal from wm (ix3 (y 0) k (y 2)))) + (show EReal from bm (ix2 (y 0) (y 2)))

/-- Which block of its array each window holds at each grid point. -/
theorem idx_val : ∀ t : Fin cfg0.N, win0_0.index t = ![0, 0]
    ∧ win0_1.index t = ![0, 0]
    ∧ win0_2.index t = ![t.val / 6, 0, t.val % 6]
    ∧ win0_3.index t = ![t.val / 6, 0, t.val % 6]
    ∧ win0_4.index t = ![t.val / 6, 0, t.val % 6] :=
  (by decide +kernel : ∀ t : Fin grid0.N, _)

/-- An entry of a point's block is the entry of the array there. -/
theorem emb4 (t : Fin cfg0.N) (y1 : Fin 8) (y2 : Fin 4096) (A : FVec Ideal S4x8x24576 .f32) :
    A (((cfg0.win 4).blk t).view.emb (ix3 0 y1 y2)) = A (ix3 ⟨t.val / 6, by have := t.isLt; have h : cfg0.N = 24 := rfl; omega⟩ y1 ⟨(t.val % 6) * 4096 + y2.val, by omega⟩) := by
  blk_point [idx_val t]

/-- The same of the condition's one block. -/
theorem emb0 (t : Fin cfg0.N) (y1 : Fin 8) (y2 : Fin 4096) (A : FVec Ideal S8x4096 .f32) :
    A (((cfg0.win 0).blk t).view.emb (ix2 y1 y2)) = A (ix2 y1 y2) := by
  blk_point [idx_val t]

/-- The same of the condition weights' one block. -/
theorem emb1 (t : Fin cfg0.N) (y1 : Fin 4096) (y2 : Fin 256) (A : FVec Ideal S4096x256 .f32) :
    A (((cfg0.win 1).blk t).view.emb (ix2 y1 y2)) = A (ix2 y1 y2) := by
  blk_point [idx_val t]

/-- The same of the modulation weights' block. -/
theorem emb2 (t : Fin cfg0.N) (y1 : Fin 256) (y2 : Fin 4096) (A : FVec Ideal S4x256x24576 .f32) :
    A (((cfg0.win 2).blk t).view.emb (ix3 0 y1 y2)) = A (ix3 ⟨t.val / 6, by have := t.isLt; have h : cfg0.N = 24 := rfl; omega⟩ y1 ⟨(t.val % 6) * 4096 + y2.val, by omega⟩) := by
  blk_point [idx_val t]

/-- The same of the bias's block. -/
theorem emb3 (t : Fin cfg0.N) (y2 : Fin 4096) (A : FVec Ideal S4x1x24576 .f32) :
    A (((cfg0.win 3).blk t).view.emb (ix3 0 0 y2)) = A (ix3 ⟨t.val / 6, by have := t.isLt; have h : cfg0.N = 24 := rfl; omega⟩ 0 ⟨(t.val % 6) * 4096 + y2.val, by omega⟩) := by
  blk_point [idx_val t]

/-- The reshaped bias at an entry. -/
theorem cast_at (A : FVec Ideal S4x24576 .f32) (l : Fin 4) (j : Fin 24576) :
    shapeCast S4x1x24576 A shapeCasts_S4x24576_S4x1x24576 (ix3 l 0 j) = A (ix2 l j) := by
  pointwise []

/-- The body's payload at an entry. -/
theorem pay_eq (x0 : Vec Ideal S8x4096 .f32) (x1 : Vec Ideal S4096x256 .f32) (x2 : Vec Ideal S1x256x4096 .f32) (x3 : Vec Ideal S1x1x4096 .f32) (r : Fin 8) (j : Fin 4096) :
    k0_pay1 x0 x1 x2 x3 (ix3 0 r j) = (∑ k : Fin 256, (∑ d : Fin 4096, SILU (x0 (ix2 r d)) * (show EReal from x1 (ix2 d k))) * (show EReal from x2 (ix3 0 k j))) + (show EReal from x3 (ix3 0 0 j)) := by
  pointwise [k0_pay1]
  rfl

/-- What a point computes is the padded modulation's block there. -/
theorem mod_point (c : Dev nD) (t : Fin cfg0.N) (y : S1x8x4096.Idx) :
    k0_pay1 (iblk m c 0 t) (iblk m c 1 t) (iblk m c 2 t) (iblk m c 3 t) y
      = KM (PAD (m ((c : Thread nD τ).loc main_arg0))) (m ((c : Thread nD τ).loc main_arg1)) (m ((c : Thread nD τ).loc main_arg2)) (m ((c : Thread nD τ).loc main_arg3)) (((cfg0.win 4).blk t).view.emb y) := by
  idx_vars y
  obtain rfl : y0 = 0 := Subsingleton.elim _ _
  have ht : t.val < 24 := t.isLt
  refine Eq.trans ?_ (emb4 t y1 y2 _).symm
  have e0 := V_v2 m c
  have e3 := V_v3 m c
  generalize PAD (m ((c : Thread nD τ).loc main_arg0)) = P at *
  refine (pay_eq _ _ _ _ y1 y2).trans ?_
  have b0 : ∀ d, iblk m c 0 t (ix2 y1 d) = P (ix2 y1 d) := by
    intro d
    rw [← e0]
    exact emb0 t y1 d (V m c main_v2)
  have b1 : ∀ d k, iblk m c 1 t (ix2 d k) = m ((c : Thread nD τ).loc main_arg1) (ix2 d k) := by
    intro d k
    rw [← V_main_arg1 m c]
    exact emb1 t d k (V m c main_arg1)
  have b2 : ∀ k, iblk m c 2 t (ix3 0 k y2) = m ((c : Thread nD τ).loc main_arg2) (ix3 ⟨t.val / 6, by omega⟩ k ⟨(t.val % 6) * 4096 + y2.val, by omega⟩) := by
    intro k
    rw [← V_main_arg2 m c]
    exact emb2 t k y2 (V m c main_arg2)
  have b3 : iblk m c 3 t (ix3 0 0 y2) = m ((c : Thread nD τ).loc main_arg3) (ix2 ⟨t.val / 6, by omega⟩ ⟨(t.val % 6) * 4096 + y2.val, by omega⟩) := by
    refine (emb3 t y2 (V m c main_v3)).trans ?_
    rw [e3]
    exact cast_at _ _ _
  simp only [b0, b1, b2, b3]
  rfl

/-- What a point leaves in the output's block. -/
theorem out (x0 : Vec Ideal S8x4096 .f32) (x1 : Vec Ideal S4096x256 .f32) (x2 : Vec Ideal S1x256x4096 .f32) (x3 : Vec Ideal S1x1x4096 .f32) :
    out0_4 x0 x1 x2 x3 = k0_pay1 x0 x1 x2 x3 := by
  unfold out0_4
  funext y
  frame_out

/-- After the region the padded result array is the padded modulation. -/
theorem padded (c : Dev nD) : (dats m 0 c).arrAt 4 (cfgs 0).N
    = KM (PAD (m ((c : Thread nD τ).loc main_arg0))) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4, out]
  exact mod_point m c t y

/-- The padded modulation without its padding is the reference's. -/
theorem final (c : Dev nD) : extractStridedSlice S4x4x24576 ![0, 0, 0] ((dats m 0 c).arrAt 4 (cfgs 0).N) slices_S4x8x24576_S4x4x24576_0_0_0
    = RM (m ((c : Thread nD τ).loc main_arg0)) (m ((c : Thread nD τ).loc main_arg1)) (m ((c : Thread nD τ).loc main_arg2)) (m ((c : Thread nD τ).loc main_arg3)) := by
  rw [padded]
  funext y
  idx_vars y
  refine Eq.trans ?_ (rm_eq _ _ _ _ y0 y1 y2).symm
  have hp := pad_eq (m ((c : Thread nD τ).loc main_arg0))
  generalize PAD (m ((c : Thread nD τ).loc main_arg0)) = P at *
  pointwise [KM]
  simp only [hp]

/-- The line after the region drops the padding of the region's result. -/
theorem tail_v5 (c : Dev nD) : Pipeline.afterTail₀ cfgs (dats m) 0 (V0 m) [hostOps1] c main_v5
    = extractStridedSlice S4x4x24576 ![0, 0, 0] ((dats m 0 c).arrAt 4 (cfgs 0).N) slices_S4x8x24576_S4x4x24576_0_0_0 := by
  unfold Pipeline.afterTail₀
  simp only [hostOps1, List.flatten_cons, List.flatten_nil, List.append_nil]
  after_results_simp
  exact congrArg (extractStridedSlice S4x4x24576 ![0, 0, 0] · slices_S4x8x24576_S4x4x24576_0_0_0)
    (Pipeline.withArrays_arr spec0 (by decide) c (V0 m c) (fun w => (dats m 0 c).arrAt w (cfgs 0).N) 4)

end Cert.Modulation

end
-- ==== Proof.HyConv.lean ====
/- Hand-written: the value of the Hyena branch's depthwise convolution. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HyConv

section
open Cert.Reference9Ideal Cert.Reference9Ideal.Gen

/-- The branch's columns with a row of zeros before the first row and after the last. -/
def PADDED (x : FVec Ideal S4x4096x8192 .bf16) : FVec Ideal S4x4098x3072 .f32 :=
  (pad S4x4098x3072 ![0, 1, 0] ![0, 1, 0] ![0, 0, 0] (extf .f32 (extractStridedSlice S4x4096x3072 ![0, 0, 0] x slices_S4x4096x8192_S4x4096x3072_0_0_0) bitsLt_bf16_f32) (sitofp .f32 (constantI S_ 32 0#32)) pads_S4x4096x3072_S4x4098x3072_000_110_000 h_S_)

/-- The reference's convolved rows. -/
def RC (x : FVec Ideal S4x4096x8192 .bf16) (w : FVec Ideal S3x3072 .f32) (b : FVec Ideal S3072 .f32) : FVec Ideal S4x4096x3072 .bf16 :=
  truncf .bf16 (addf (addf (addf (mulf (extractStridedSlice S4x4096x3072 ![0, 0, 0] (PADDED x) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] w slices_S3x3072_S1x3072_0_0) shapeCasts_S1x3072_S3072)))) (mulf (extractStridedSlice S4x4096x3072 ![0, 1, 0] (PADDED x) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] w slices_S3x3072_S1x3072_1_0) shapeCasts_S1x3072_S3072))))) (mulf (extractStridedSlice S4x4096x3072 ![0, 2, 0] (PADDED x) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] w slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 b))) bitsLt_bf16_f32

/-- The padding's value is zero. -/
theorem sitofp_zero_f32 : (FloatOps.sitofp (F := Ideal) .f32 (0#32)) = (0 : EReal) := by
  show ((((0#32 : BitVec 32).toInt : ℤ) : ℝ) : EReal) = 0
  simp

/-- The row before row `r`, or zeros. -/
def ABOVE (x : FVec Ideal S4x4096x8192 .bf16) (d : Fin 4) (r : Fin 4096) (j : Fin 3072) : EReal :=
  if h : r.val = 0 then 0 else x (ix3 d ⟨r.val - 1, by omega⟩ ⟨j.val, by omega⟩)
/-- The row after row `r`, or zeros. -/
def BELOW (x : FVec Ideal S4x4096x8192 .bf16) (d : Fin 4) (r : Fin 4096) (j : Fin 3072) : EReal :=
  if h : r.val = 4095 then 0 else x (ix3 d ⟨r.val + 1, by omega⟩ ⟨j.val, by omega⟩)

/-- The padded rows one by one. -/
theorem padded_eq (x : FVec Ideal S4x4096x8192 .bf16) (d : Fin 4) (r : Fin 4098) (j : Fin 3072) :
    PADDED x (ix3 d r j) = if h : r.val = 0 ∨ r.val = 4097 then (0 : EReal) else x (ix3 d ⟨r.val - 1, by omega⟩ ⟨j.val, by omega⟩) := by
  by_cases h : r.val = 0 ∨ r.val = 4097
  · rw [dif_pos h]
    pointwise [PADDED]
    rw [dif_neg (by omega)]
    exact sitofp_zero_f32
  · rw [dif_neg h]
    pointwise [PADDED]
    rw [dif_pos (by omega)]

/-- The convolved rows one by one. -/
theorem rc_eq (x : FVec Ideal S4x4096x8192 .bf16) (w : FVec Ideal S3x3072 .f32) (b : FVec Ideal S3072 .f32) (d : Fin 4) (r : Fin 4096) (j : Fin 3072) :
    RC x w b (ix3 d r j) = ABOVE x d r j * (show EReal from w (ix2 0 j)) + (show EReal from x (ix3 d r ⟨j.val, by omega⟩)) * (show EReal from w (ix2 1 j))
      + BELOW x d r j * (show EReal from w (ix2 2 j)) + (show EReal from b (ix1 j)) := by
  have hp := padded_eq x
  unfold RC
  generalize PADDED x = Q at *
  have hA : ∀ p, Q (ix3 d ⟨r.val, p⟩ j) = ABOVE x d r j := by
    intro p
    rw [hp]
    unfold ABOVE
    by_cases h : r.val = 0
    · rw [dif_pos (Or.inl h), dif_pos h]
    · rw [dif_neg (by show ¬(r.val = 0 ∨ r.val = 4097); omega), dif_neg h]
  have hM : ∀ p, Q (ix3 d ⟨1 + r.val, p⟩ j) = x (ix3 d r ⟨j.val, by omega⟩) := by
    intro p
    rw [hp, dif_neg (by show ¬(1 + r.val = 0 ∨ 1 + r.val = 4097); omega)]
    have e : 1 + r.val - 1 = r.val := by omega
    simp only [e]
  have hB : ∀ p, Q (ix3 d ⟨2 + r.val, p⟩ j) = BELOW x d r j := by
    intro p
    rw [hp]
    unfold BELOW
    by_cases h : r.val = 4095
    · rw [dif_pos (by show 2 + r.val = 0 ∨ 2 + r.val = 4097; omega), dif_pos h]
    · rw [dif_neg (by show ¬(2 + r.val = 0 ∨ 2 + r.val = 4097); omega), dif_neg h]
      have e : 2 + r.val - 1 = r.val + 1 := by omega
      simp only [e]
  pointwise
  simp only [hA, hM, hB]
end

open Cert.Kernel9Ideal Cert.Kernel9Ideal.Gen

/-- A selection by a bit. -/
theorem select_if (c : BitVec 1) (x y : EReal) : Scalar.select c x y = if c = 1#1 then x else y := by
  rcases (by decide : ∀ c : BitVec 1, c = 1#1 ∨ c = 0#1) c with rfl | rfl <;> rfl

/-- What a chunk reads as the rows before its own. -/
theorem prev_eq (k : Fin k0_t1_loop.trips) (v8 : Vec Ideal S1x256x512 .bf16) (v18 : Vec Ideal S1x16x512 .bf16) (a : Fin 256) (j : Fin 512) :
    k0_pay3 (iota .tc S256x512 32 [0] iota_S256x512_d0_w32) 0#32 1#32 k v8 v18 (ix2 a j)
      = if h : a.val = 0 then (if k.val = 0 then (0 : EReal) else v18 (ix3 0 15 j)) else v8 (ix3 0 ⟨a.val - 1, by omega⟩ j) := by
  have ha : (IntOp.cmpi CmpIPredicate.eq (BitVec.ofNat 32 a.val) 0#32 = 1#1) = (a.val = 0) :=
    (by decide +kernel : ∀ a : Fin 256, (IntOp.cmpi CmpIPredicate.eq (BitVec.ofNat 32 a.val) 0#32 = 1#1) = (a.val = 0)) a
  have hk : (Scalar.cmpi CmpIPredicate.eq (Scf.iv 0#32 1#32 k.val) 0#32 = 1#1) = (k.val = 0) :=
    (by decide +kernel : ∀ k : Fin k0_t1_loop.trips, (Scalar.cmpi CmpIPredicate.eq (Scf.iv 0#32 1#32 k.val) 0#32 = 1#1) = (k.val = 0)) k
  pointwise [k0_pay3, k0_pay2]
  simp only [select_if, ha, hk]
  by_cases h : a.val = 0
  · simp only [if_pos h, dif_pos h]
  · have e : (a.val + 256 - 1) % 256 = a.val - 1 := by omega
    simp only [if_neg h, dif_neg h, e]

/-- What a chunk reads as the rows after its own. -/
theorem next_eq (k : Fin k0_t1_loop.trips) (v8 : Vec Ideal S1x256x512 .bf16) (v18 : Vec Ideal S1x16x512 .bf16) (a : Fin 256) (j : Fin 512) :
    k0_pay4 (iota .tc S256x512 32 [0] iota_S256x512_d0_w32) 0#32 1#32 k v8 v18 (ix2 a j)
      = if h : a.val = 255 then (if k.val = 15 then (0 : EReal) else v18 (ix3 0 0 j)) else v8 (ix3 0 ⟨a.val + 1, by omega⟩ j) := by
  have ha : (IntOp.cmpi CmpIPredicate.eq (BitVec.ofNat 32 a.val) 255#32 = 1#1) = (a.val = 255) :=
    (by decide +kernel : ∀ a : Fin 256, (IntOp.cmpi CmpIPredicate.eq (BitVec.ofNat 32 a.val) 255#32 = 1#1) = (a.val = 255)) a
  have hk : (Scalar.cmpi CmpIPredicate.eq (Scf.iv 0#32 1#32 k.val) 15#32 = 1#1) = (k.val = 15) :=
    (by decide +kernel : ∀ k : Fin k0_t1_loop.trips, (Scalar.cmpi CmpIPredicate.eq (Scf.iv 0#32 1#32 k.val) 15#32 = 1#1) = (k.val = 15)) k
  pointwise [k0_pay4, k0_pay2]
  simp only [select_if, ha, hk]
  by_cases h : a.val = 255
  · simp only [if_pos h, dif_pos h]
  · have e : (a.val + 256 - 255) % 256 = a.val + 1 := by omega
    simp only [if_neg h, dif_neg h, e]

/-- What a chunk stores, from its rows and their neighbours. -/
theorem pay_eq (v0 : Vec Ideal S3x512 .f32) (v1 : Vec Ideal S1x512 .f32) (v10 v38 v44 : FVec Ideal S256x512 .f32) (a : Fin 256) (j : Fin 512) :
    k0_pay1 v0 v1 v10 v38 v44 (ix3 0 a j)
      = (show EReal from v38 (ix2 a j)) * (show EReal from v0 (ix2 0 j)) + (show EReal from v10 (ix2 a j)) * (show EReal from v0 (ix2 1 j)) + (show EReal from v44 (ix2 a j)) * (show EReal from v0 (ix2 2 j)) + (show EReal from v1 (ix2 0 j)) := by
  pointwise [k0_pay1]

/-- A chunk's rows themselves. -/
theorem mid_eq (v8 : Vec Ideal S1x256x512 .bf16) (a : Fin 256) (j : Fin 512) : k0_pay2 v8 (ix2 a j) = v8 (ix3 0 a j) := by
  pointwise [k0_pay2]

/-- The row above in a block, or zero. -/
def UP (X : FVec Ideal S1x4096x512 .bf16) (r : Fin 4096) (j : Fin 512) : EReal :=
  if h : r.val = 0 then 0 else X (ix3 0 ⟨r.val - 1, by omega⟩ j)
/-- The row below in a block, or zero. -/
def DN (X : FVec Ideal S1x4096x512 .bf16) (r : Fin 4096) (j : Fin 512) : EReal :=
  if h : r.val = 4095 then 0 else X (ix3 0 ⟨r.val + 1, by omega⟩ j)

/-- The convolved rows of one block of columns. -/
def CONV (X : FVec Ideal S1x4096x512 .bf16) (w : FVec Ideal S3x512 .f32) (b : FVec Ideal S1x512 .f32) : FVec Ideal S1x4096x512 .bf16 :=
  fun y => UP X (y 1) (y 2) * (show EReal from w (ix2 0 (y 2))) + (show EReal from X (ix3 0 (y 1) (y 2))) * (show EReal from w (ix2 1 (y 2)))
    + DN X (y 1) (y 2) * (show EReal from w (ix2 2 (y 2))) + (show EReal from b (ix2 0 (y 2)))

section
variable {𝒱 : Variants} {c : Dev nD} {bd : Option 𝒱.V} {i : grid0.Coords} {arg2 : Memref sig .tc .vmem S1x4096x512 .bf16} {harg2 : arg2.IsWhole} {arg3 : Memref sig .tc .vmem S3x512 .f32} {harg3 : arg3.IsWhole} {arg4 : Memref sig .tc .vmem S1x512 .f32} {harg4 : arg4.IsWhole} {arg5 : Memref sig .tc .vmem S1x4096x512 .bf16} {harg5 : arg5.IsWhole}
  {v0 : Vec Ideal S3x512 .f32} {v1 : Vec Ideal S1x512 .f32} {X : Vec Ideal S1x4096x512 .bf16}

/-- Where a chunk's rows begin. -/
theorem off1 (k : Fin k0_t1_loop.trips) : k0_off1 k = ![0, 256 * k.val, 0] := k0_off1_eq k
/-- Where the rows before a chunk begin. -/
theorem off2 : ∀ k : Fin k0_t1_loop.trips, k0_off2 k = ![0, 256 * k.val - 16, 0] := by decide +kernel
/-- Where the rows after a chunk begin. -/
theorem off3 (k : Fin k0_t1_loop.trips) : k0_off3 k = ![0, min (256 * k.val + 256) 4080, 0] := k0_off3_eq k

/-- Three rows of a block read from three offsets. -/
theorem ld_at {n : ℕ} (o : Fin 3 → ℕ) (q : ℕ) (ho : o = ![0, q, 0]) (inb) (a : Fin n) (j : Fin 512) (h : q + a.val < 4096) :
    View.ld X (Rect.unit (s := S1x4096x512) o ![1, n, 512] inb) (ix3 0 a j) = X (ix3 0 ⟨q + a.val, h⟩ j) := by
  subst ho
  rw [View.ld_apply]
  refine congrArg X (funext fun d => Fin.ext ?_)
  fin_cases d
  · rfl
  · show q + 1 * a.val = q + a.val
    omega
  · show 0 + 1 * j.val = j.val
    omega

/-- What one trip of the loop stores is the convolved rows it stores them over. -/
theorem trip_piece (k : Fin k0_t1_loop.trips) :
   ∀ p ∈ tripL_k0_t1 (F := Ideal) 𝒱 c bd i arg2 harg2 arg3 harg3 arg4 harg4 arg5 harg5 v0 v1 (iota .tc S256x512 32 [0] iota_S256x512_d0_w32) (harg2.unread X) k,
     ∀ x, p.2 x = CONV X v0 v1 (p.1.emb x) := by
  unfold tripL_k0_t1 trip_k0_t1
  intro p hp x
  obtain rfl := List.mem_singleton.mp hp
  show k0_pay1 v0 v1 _ _ _ x = _
  simp only [View.readAt_eq_ld, harg2.read_unread]
  have hk : k.val < 16 := k.isLt
  idx_vars x
  obtain rfl : x0 = 0 := Subsingleton.elim _ _
  have e1 : ∀ inb (a : Fin 256), View.ld X (Rect.unit (s := S1x4096x512) (k0_off1 k) S1x256x512.size inb) (ix3 0 a x2) = X (ix3 0 ⟨256 * k.val + a.val, by omega⟩ x2) :=
    fun inb a => ld_at (n := 256) _ _ (off1 k) inb a x2 _
  have e2 : ∀ inb, View.ld X (Rect.unit (s := S1x4096x512) (k0_off2 k) S1x16x512.size inb) (ix3 0 15 x2) = X (ix3 0 ⟨256 * k.val - 16 + 15, by omega⟩ x2) :=
    fun inb => ld_at (n := 16) _ _ (off2 k) inb 15 x2 _
  have e3 : ∀ inb, View.ld X (Rect.unit (s := S1x4096x512) (k0_off3 k) S1x16x512.size inb) (ix3 0 0 x2) = X (ix3 0 ⟨min (256 * k.val + 256) 4080 + 0, by omega⟩ x2) :=
    fun inb => ld_at (n := 16) _ _ (off3 k) inb 0 x2 _
  have hx : ∀ inb, (Rect.unit (s := S1x4096x512) (k0_off1 k) S1x256x512.size inb).emb (ix3 0 x1 x2) = ix3 0 ⟨256 * k.val + x1.val, by omega⟩ x2 := by
    intro inb
    funext d
    apply Fin.ext
    rw [Rect.emb_apply]
    simp only [off1 k]
    fin_cases d
    · rfl
    · show 256 * k.val + 1 * x1.val = 256 * k.val + x1.val
      omega
    · show 0 + 1 * x2.val = x2.val
      omega
  refine (pay_eq _ _ _ _ _ _ _).trans ?_
  refine Eq.trans ?_ (congrArg (CONV X v0 v1) (hx _)).symm
  show _ = UP X ⟨256 * k.val + x1.val, by omega⟩ x2 * (show EReal from v0 (ix2 0 x2)) + (show EReal from X (ix3 0 ⟨256 * k.val + x1.val, by omega⟩ x2)) * (show EReal from v0 (ix2 1 x2))
    + DN X ⟨256 * k.val + x1.val, by omega⟩ x2 * (show EReal from v0 (ix2 2 x2)) + (show EReal from v1 (ix2 0 x2))
  have hm := (mid_eq (View.ld X (Rect.unit (s := S1x4096x512) (k0_off1 k) S1x256x512.size (k0_off1_inb k))) x1 x2).trans (e1 _ x1)
  have hu : k0_pay3 (iota .tc S256x512 32 [0] iota_S256x512_d0_w32) 0#32 1#32 k (View.ld X (Rect.unit (s := S1x4096x512) (k0_off1 k) S1x256x512.size (k0_off1_inb k))) (View.ld X (Rect.unit (s := S1x4096x512) (k0_off2 k) S1x16x512.size (k0_off2_inb k))) (ix2 x1 x2) = UP X ⟨256 * k.val + x1.val, by omega⟩ x2 := by
    refine (prev_eq k _ _ x1 x2).trans ?_
    unfold UP
    by_cases h : x1.val = 0
    · rw [dif_pos h]
      by_cases h' : k.val = 0
      · rw [if_pos h', dif_pos (by show 256 * k.val + x1.val = 0; omega)]
      · rw [if_neg h', dif_neg (by show ¬256 * k.val + x1.val = 0; omega), e2]
        have e : 256 * k.val - 16 + 15 = 256 * k.val + x1.val - 1 := by omega
        simp only [e]
    · rw [dif_neg h, dif_neg (by show ¬256 * k.val + x1.val = 0; omega), e1]
      have e : 256 * k.val + (x1.val - 1) = 256 * k.val + x1.val - 1 := by omega
      simp only [e]
  have hd : k0_pay4 (iota .tc S256x512 32 [0] iota_S256x512_d0_w32) 0#32 1#32 k (View.ld X (Rect.unit (s := S1x4096x512) (k0_off1 k) S1x256x512.size (k0_off1_inb k))) (View.ld X (Rect.unit (s := S1x4096x512) (k0_off3 k) S1x16x512.size (k0_off3_inb k))) (ix2 x1 x2) = DN X ⟨256 * k.val + x1.val, by omega⟩ x2 := by
    refine (next_eq k _ _ x1 x2).trans ?_
    unfold DN
    by_cases h : x1.val = 255
    · rw [dif_pos h]
      by_cases h' : k.val = 15
      · rw [if_pos h', dif_pos (by show 256 * k.val + x1.val = 4095; omega)]
      · rw [if_neg h', dif_neg (by show ¬256 * k.val + x1.val = 4095; omega), e3]
        have e : min (256 * k.val + 256) 4080 + 0 = 256 * k.val + x1.val + 1 := by omega
        simp only [e]
    · rw [dif_neg h, dif_neg (by show ¬256 * k.val + x1.val = 4095; omega), e1]
      have e : 256 * k.val + (x1.val + 1) = 256 * k.val + x1.val + 1 := by omega
      simp only [e]
  unfold trip_k0_t1.sl.r trip_k0_t1.sl.r_1 trip_k0_t1.sl.r_2
  simp only [View.readAt_eq_ld, harg2.read_unread]
  exact congrArg₂ (· + ·) (congrArg₂ (· + ·) (congrArg₂ (· + ·) (congrArg (· * _) hu) (congrArg (· * _) hm)) (congrArg (· * _) hd)) rfl

/-- Every piece the loop's trips store is such rows. -/
theorem trips_piece : ∀ n, n ≤ k0_t1_loop.trips →
   ∀ p ∈ pb_k0_t1 (F := Ideal) 𝒱 c bd i arg2 harg2 arg3 harg3 arg4 harg4 arg5 harg5 v0 v1 (iota .tc S256x512 32 [0] iota_S256x512_d0_w32) (harg2.unread X) n,
     ∀ x, p.2 x = CONV X v0 v1 (p.1.emb x)
  | 0, _ => fun p hp => absurd hp (List.not_mem_nil)
  | n + 1, hn => fun p hp => by
    rw [pb_k0_t1_succ (k := ⟨n, hn⟩)] at hp
    rcases List.mem_append.mp hp with h | h
    · exact trip_piece _ p h
    · exact trips_piece n (by omega) p h
end

variable (m : (ℓ : Loc nD τ sig) → Buf (Elt Ideal) ℓ)

/-- Which block of its array each window holds at each grid point. -/
theorem idx_val : ∀ t : Fin cfg0.N, win0_0.index t = ![t.val / 6, 0, t.val % 6]
    ∧ win0_1.index t = ![0, t.val % 6]
    ∧ win0_2.index t = ![0, t.val % 6]
    ∧ win0_3.index t = ![t.val / 6, 0, t.val % 6] :=
  (by decide +kernel : ∀ t : Fin grid0.N, _)

/-- A block of the result, read off an array of its shape. -/
theorem emb3 (t : Fin cfg0.N) (y1 : Fin 4096) (y2 : Fin 512) (A : FVec Ideal S4x4096x3072 .bf16) :
    A (((cfg0.win 3).blk t).view.emb (ix3 0 y1 y2))
      = A (ix3 ⟨t.val / 6, by have := t.isLt; have h : cfg0.N = 24 := rfl; omega⟩ y1 ⟨t.val % 6 * 512 + y2.val, by omega⟩) := by
  blk_point [idx_val t]

/-- A block of the rows. -/
theorem iblk0 (c : Dev nD) (t : Fin cfg0.N) (y1 : Fin 4096) (y2 : Fin 512) :
    iblk m c 0 t (ix3 0 y1 y2)
      = m ((c : Thread nD τ).loc main_arg0) (ix3 ⟨t.val / 6, by have := t.isLt; have h : cfg0.N = 24 := rfl; omega⟩ y1 ⟨t.val % 6 * 512 + y2.val, by omega⟩) := by
  blk_point [iblk, V, idx_val t]
/-- A block of the weights. -/
theorem iblk1 (c : Dev nD) (t : Fin cfg0.N) (q : Fin 3) (y2 : Fin 512) :
    iblk m c 1 t (ix2 q y2) = m ((c : Thread nD τ).loc main_arg1) (ix2 q ⟨t.val % 6 * 512 + y2.val, by omega⟩) := by
  blk_point [iblk, V, idx_val t]
/-- A block of the bias. -/
theorem iblk2 (c : Dev nD) (t : Fin cfg0.N) (y2 : Fin 512) :
    iblk m c 2 t (ix2 0 y2) = m ((c : Thread nD τ).loc main_arg2) (ix1 ⟨t.val % 6 * 512 + y2.val, by omega⟩) := by
  blk_point [iblk, V, idx_val t]

/-- The convolved rows of the blocks at a grid point are the reference's. -/
theorem conv_point (c : Dev nD) (t : Fin cfg0.N) (y : S1x4096x512.Idx) :
    CONV (iblk m c 0 t) (iblk m c 1 t) (iblk m c 2 t) y
      = RC (m ((c : Thread nD τ).loc main_arg0)) (m ((c : Thread nD τ).loc main_arg1)) (m ((c : Thread nD τ).loc main_arg2)) (((cfg0.win 3).blk t).view.emb y) := by
  have h0 := iblk0 m c t
  have h1 := iblk1 m c t
  have h2 := iblk2 m c t
  generalize iblk m c 0 t = X at *
  generalize iblk m c 1 t = W at *
  generalize iblk m c 2 t = U at *
  idx_vars y
  obtain rfl : y0 = 0 := Subsingleton.elim _ _
  have ht : t.val < 24 := t.isLt
  refine Eq.trans ?_ ((emb3 t y1 y2 _).trans (rc_eq _ _ _ _ _ _)).symm
  show UP X y1 y2 * (show EReal from W (ix2 0 y2)) + (show EReal from X (ix3 0 y1 y2)) * (show EReal from W (ix2 1 y2)) + DN X y1 y2 * (show EReal from W (ix2 2 y2)) + (show EReal from U (ix2 0 y2)) = _
  unfold UP DN ABOVE BELOW
  simp only [h0, h1, h2]

/-- What a point leaves in the output's block. -/
theorem out (c : Dev nD) (t : Fin cfg0.N) :
    outsAt0 m c t = CONV (iblk m c 0 t) (iblk m c 1 t) (iblk m c 2 t) := by
  unfold outsAt0
  funext y
  frame_out
  refine View.canon_apply_of_pieces (CONV (iblk m c 0 t) (iblk m c 1 t) (iblk m c 2 t)) _ (fun p hp => trips_piece k0_t1_loop.trips le_rfl p hp) y ?_
  exact View.cover_of_tiledL _ ![1, 256, 512] (by sl_kernel_rfl) y

/-- After the run the result array is the reference's. -/
theorem final (c : Dev nD) : (dats m 0 c).arrAt 3 (cfgs 0).N
    = RC (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3, out m c t]
  exact conv_point m c t y

end Cert.HyConv

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.FfnUp
public import Idealize.ShloMosaic.Lib.Claim
public import proofs.«01_k».proof.Proof.Down
public import proofs.«01_k».proof.Proof.OutProj
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Merge
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.InProjBitsFrame
public import proofs.«01_k».proof.Proof.InProj
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Loops
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.FinalNorm
public import proofs.«01_k».proof.Proof.Modulation
public import proofs.«01_k».proof.Proof.HyConv

@[expose] public section

noncomputable section

namespace Cert.Proof

open Idealize.ShloMosaic Idealize.SL.Sem

/-- `Kernel2` runs to its end and leaves its arguments as they were. -/
theorem frame_Kernel2 : Cert.quiescent_Kernel2 :=
  fun m ρ _ => Cert.Kernel2.Gen.frame m ρ

/-- `Kernel2Ideal` runs to its end and leaves its arguments as they were. -/
theorem frame_Kernel2Ideal : Cert.quiescent_Kernel2Ideal :=
  fun m ρ _ => Cert.Kernel2Ideal.Gen.frame m ρ

/-- `Reference2Ideal` runs to its end and leaves its arguments as they were. -/
theorem frame_Reference2Ideal : Cert.quiescent_Reference2Ideal :=
  fun m ρ _ => (θ_run Cert.Reference2Ideal.defs _ _).mono (fun r h => ⟨fun c => (h c).2, sem_eq_zero_of_no_sems (by decide) r.2⟩)
    (Cert.Reference2Ideal.Value.run m ρ)

/-- `Kernel3` runs to its end and leaves its arguments as they were. -/
theorem frame_Kernel3 : Cert.quiescent_Kernel3 :=
  fun m ρ _ => Cert.Kernel3.Gen.frame m ρ

/-- `Kernel3Ideal` runs to its end and leaves its arguments as they were. -/
theorem frame_Kernel3Ideal : Cert.quiescent_Kernel3Ideal :=
  fun m ρ _ => Cert.Kernel3Ideal.Gen.frame m ρ

/-- `Reference3Ideal` runs to its end and leaves its arguments as they were. -/
theorem frame_Reference3Ideal : Cert.quiescent_Reference3Ideal :=
  fun m ρ _ => (θ_run Cert.Reference3Ideal.defs _ _).mono (fun r h => ⟨fun c => (h c).2, sem_eq_zero_of_no_sems (by decide) r.2⟩)
    (Cert.Reference3Ideal.Value.run m ρ)

/-- `Kernel4` runs to its end and leaves its arguments as they were. -/
theorem frame_Kernel4 : Cert.quiescent_Kernel4 :=
  fun m ρ _ => Cert.Kernel4.Gen.frame m ρ

/-- `Kernel4Ideal` runs to its end and leaves its arguments as they were. -/
theorem frame_Kernel4Ideal : Cert.quiescent_Kernel4Ideal :=
  fun m ρ _ => Cert.Kernel4Ideal.Gen.frame m ρ

/-- `Reference4Ideal` runs to its end and leaves its arguments as they were. -/
theorem frame_Reference4Ideal : Cert.quiescent_Reference4Ideal :=
  fun m ρ _ => (θ_run Cert.Reference4Ideal.defs _ _).mono (fun r h => ⟨fun c => (h c).2, sem_eq_zero_of_no_sems (by decide) r.2⟩)
    (Cert.Reference4Ideal.Value.run m ρ)

/-- `Kernel2Ideal` and `Reference2Ideal` leave the same array, over the extended reals. -/
theorem algebraic2 : Cert.algebraic_Kernel2Ideal_Reference2Ideal := by
  pair_intro
  · run_from Cert.Kernel2Ideal.Gen.run_main m g
  · run_from Cert.Reference2Ideal.Value.run m' g'
    obtain ⟨a0, a1, a2, a3, a4, a5⟩ := hagree c
    rw [Cert.FfnUp.res_eq, a0, a1, a2, a3, a4, a5]
    exact (Cert.FfnUp.final m c).symm

/-- `Kernel3Ideal` and `Reference3Ideal` leave the same array, over the extended reals. -/
theorem algebraic3 : Cert.algebraic_Kernel3Ideal_Reference3Ideal := by
  pair_intro
  · run_from Cert.Kernel3Ideal.Gen.run_main m g
  · run_from Cert.Reference3Ideal.Value.run m' g'
    exact (Cert.Down.final m c).symm

/-- `Kernel4Ideal` and `Reference4Ideal` leave the same array, over the extended reals. -/
theorem algebraic4 : Cert.algebraic_Kernel4Ideal_Reference4Ideal := by
  pair_intro
  · run_from Cert.Kernel4Ideal.Gen.run_main m g
  · run_from Cert.Reference4Ideal.Value.run m' g'
    exact (Cert.OutProj.final m c).symm

/-- `Kernel5` runs to its end and leaves its arguments as they were. -/
theorem frame_Kernel5 : Cert.quiescent_Kernel5 :=
  fun m ρ _ => Cert.Kernel5.Gen.frame m ρ

/-- `Kernel5Ideal` runs to its end and leaves its arguments as they were. -/
theorem frame_Kernel5Ideal : Cert.quiescent_Kernel5Ideal :=
  fun m ρ _ => Cert.Kernel5Ideal.Gen.frame m ρ

/-- `Reference5Ideal` runs to its end and leaves its arguments as they were. -/
theorem frame_Reference5Ideal : Cert.quiescent_Reference5Ideal :=
  fun m ρ _ => (θ_run Cert.Reference5Ideal.defs _ _).mono (fun r h => ⟨fun c => (h c).2, sem_eq_zero_of_no_sems (by decide) r.2⟩)
    (Cert.Reference5Ideal.Value.run m ρ)

/-- `Kernel5Ideal` and `Reference5Ideal` leave the same array, over the extended reals. -/
theorem algebraic5 : Cert.algebraic_Kernel5Ideal_Reference5Ideal := by
  pair_intro
  · run_from Cert.Kernel5Ideal.Gen.run_main m g
  · run_from Cert.Reference5Ideal.Value.run m' g'
    obtain ⟨a0, a1, a2, a3, a4, a5, a6, a7, a8⟩ := hagree c
    rw [Cert.Merge.res_eq, a0, a1, a2, a3, a4, a5, a6, a7, a8]
    exact (Cert.Merge.final m c).symm

/-- `Kernel6` runs to its end and leaves its arguments as they were. -/
theorem frame_Kernel6 : Cert.quiescent_Kernel6 :=
  fun m ρ _ => Cert.Kernel6.Proj.frame m ρ

/-- `Kernel6Ideal` runs to its end and leaves its arguments as they were. -/
theorem frame_Kernel6Ideal : Cert.quiescent_Kernel6Ideal :=
  fun m ρ _ => Cert.Kernel6Ideal.Proj.frame m ρ

/-- `Reference6Ideal` runs to its end and leaves its arguments as they were. -/
theorem frame_Reference6Ideal : Cert.quiescent_Reference6Ideal :=
  fun m ρ _ => (θ_run Cert.Reference6Ideal.defs _ _).mono (fun r h => ⟨fun c => (h c).2.2, sem_eq_zero_of_no_sems (by decide) r.2⟩)
    (Cert.Reference6Ideal.Value.run m ρ)

/-- `Kernel6Ideal` and `Reference6Ideal` leave the same two arrays, over the extended reals. -/
theorem algebraic6 : Cert.algebraic_Kernel6Ideal_Reference6Ideal := by
  pair_intro
  · run_from Cert.Kernel6Ideal.Proj.run_main m g
    exacts [Cert.Kernel6Ideal.Gen.V_main_arg1 m c, Cert.Kernel6Ideal.Gen.V_main_arg4 m c, Cert.Kernel6Ideal.Gen.V_main_arg5 m c]
  · run_from Cert.Reference6Ideal.Value.run m' g'
    all_goals obtain ⟨-, -, -, -, a4, a5⟩ := hagree c
    · change Cert.InProj.BR (Cert.InProj.HNm m c) (m' ((c.tc : Thread Cert.Reference6Ideal.nD Cert.Reference6Ideal.τ).loc Cert.Reference6Ideal.main_arg4)) = _
      rw [a4]
      exact (Cert.InProj.final7 m c).symm
    · change Cert.InProj.SM (Cert.InProj.HNm m c) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) = _
      rw [a4, a5]
      exact (Cert.InProj.final8 m c).symm

/-- `Kernel7` runs to its end and leaves its arguments as they were. -/
theorem frame_Kernel7 : Cert.quiescent_Kernel7 :=
  fun m ρ _ => Cert.Kernel7.Gen.frame m ρ

/-- `Kernel7Ideal` runs to its end and leaves its arguments as they were. -/
theorem frame_Kernel7Ideal : Cert.quiescent_Kernel7Ideal :=
  fun m ρ _ => Cert.Kernel7Ideal.Gen.frame m ρ

/-- `Reference7Ideal` runs to its end and leaves its arguments as they were. -/
theorem frame_Reference7Ideal : Cert.quiescent_Reference7Ideal :=
  fun m ρ _ => (θ_run Cert.Reference7Ideal.defs _ _).mono (fun r h => ⟨fun c => (h c).2, sem_eq_zero_of_no_sems (by decide) r.2⟩)
    (Cert.Reference7Ideal.Value.run m ρ)

/-- `Kernel7Ideal` and `Reference7Ideal` leave the same array, over the extended reals. -/
theorem algebraic7 : Cert.algebraic_Kernel7Ideal_Reference7Ideal := by
  pair_intro
  · run_from Cert.Kernel7Ideal.Gen.run_main m g
  · run_from Cert.Reference7Ideal.Value.run m' g'
    exact (Cert.FinalNorm.final m c).symm

/-- `Kernel8` runs to its end and leaves its arguments as they were. -/
theorem frame_Kernel8 : Cert.quiescent_Kernel8 :=
  fun m ρ _ => Cert.Kernel8.Gen.frame m ρ

/-- `Kernel8Ideal` runs to its end and leaves its arguments as they were. -/
theorem frame_Kernel8Ideal : Cert.quiescent_Kernel8Ideal :=
  fun m ρ _ => Cert.Kernel8Ideal.Gen.frame m ρ

/-- `Reference8Ideal` runs to its end and leaves its arguments as they were. -/
theorem frame_Reference8Ideal : Cert.quiescent_Reference8Ideal :=
  fun m ρ _ => (θ_run Cert.Reference8Ideal.defs _ _).mono (fun r h => ⟨fun c => (h c).2, sem_eq_zero_of_no_sems (by decide) r.2⟩)
    (Cert.Reference8Ideal.Value.run m ρ)

/-- `Kernel8Ideal` and `Reference8Ideal` leave the same array, over the extended reals. -/
theorem algebraic8 : Cert.algebraic_Kernel8Ideal_Reference8Ideal := by
  pair_intro
  · run_from Cert.Kernel8Ideal.Gen.run_main m g
    exacts [Cert.Kernel8Ideal.Gen.W_main_arg0 m (Cert.Kernel8Ideal.Gen.dats m) c, Cert.Kernel8Ideal.Gen.W_main_arg3 m (Cert.Kernel8Ideal.Gen.dats m) c]
  · run_from Cert.Reference8Ideal.Value.run m' g'
    exact ((Cert.Modulation.tail_v5 m c).trans (Cert.Modulation.final m c)).symm

/-- `Kernel9` runs to its end and leaves its arguments as they were. -/
theorem frame_Kernel9 : Cert.quiescent_Kernel9 :=
  fun m ρ _ => Cert.Kernel9.Gen.frame m ρ

/-- `Kernel9Ideal` runs to its end and leaves its arguments as they were. -/
theorem frame_Kernel9Ideal : Cert.quiescent_Kernel9Ideal :=
  fun m ρ _ => Cert.Kernel9Ideal.Gen.frame m ρ

/-- `Reference9Ideal` runs to its end and leaves its arguments as they were. -/
theorem frame_Reference9Ideal : Cert.quiescent_Reference9Ideal :=
  fun m ρ _ => (θ_run Cert.Reference9Ideal.defs _ _).mono (fun r h => ⟨fun c => (h c).2, sem_eq_zero_of_no_sems (by decide) r.2⟩)
    (Cert.Reference9Ideal.Value.run m ρ)

/-- `Kernel9Ideal` and `Reference9Ideal` leave the same array, over the extended reals. -/
theorem algebraic9 : Cert.algebraic_Kernel9Ideal_Reference9Ideal := by
  pair_intro
  · run_from Cert.Kernel9Ideal.Gen.run_main m g
  · run_from Cert.Reference9Ideal.Value.run m' g'
    exact (Cert.HyConv.final m c).symm

/-- Everything that is claimed. -/
theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  frame_Kernel2, frame_Kernel2Ideal, frame_Reference2Ideal, frame_Kernel3, frame_Kernel3Ideal, frame_Reference3Ideal, frame_Kernel4, frame_Kernel4Ideal, frame_Reference4Ideal, frame_Kernel5, frame_Kernel5Ideal, frame_Reference5Ideal, frame_Kernel6, frame_Kernel6Ideal, frame_Reference6Ideal, frame_Kernel7, frame_Kernel7Ideal, frame_Reference7Ideal, frame_Kernel8, frame_Kernel8Ideal, frame_Reference8Ideal, frame_Kernel9, frame_Kernel9Ideal, frame_Reference9Ideal, trivial, algebraic2, trivial, algebraic3, trivial, algebraic4, trivial, algebraic5, trivial, algebraic6, trivial, algebraic7, trivial, algebraic8, trivial, algebraic9⟩

end Cert.Proof

end
